-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_moderate [hPre_moderate : Cert.Pre_moderate.Facts] (m : (ℓ : Loc Cert.KernelIdeal.nD Cert.KernelIdeal.τ Cert.KernelIdeal.sig) → Buf (Elt Ideal) ℓ) : Prop :=
  ∀ c : Dev Cert.KernelIdeal.nD,
    (Cert.Pre_moderate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_moderate [hPre_moderate : Cert.Pre_moderate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_moderate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_moderate [hKernelIdeal : Cert.KernelIdeal.Facts] [hPre_moderate : Cert.Pre_moderate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_moderate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_moderate [hReferenceIdeal : Cert.ReferenceIdeal.Facts] [hPre_moderate : Cert.Pre_moderate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_moderate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  True

def algebraic_KernelIdeal_ReferenceIdeal_pre_moderate [hKernelIdeal : Cert.KernelIdeal.Facts] [hReferenceIdeal : Cert.ReferenceIdeal.Facts] [hPre_moderate : Cert.Pre_moderate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_moderate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v267)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v267) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v354) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_moderate : Cert.Pre_moderate.Facts),
    quiescent_Kernel (hKernel := hKernel)
    ∧ quiescent_KernelIdeal (hKernelIdeal := hKernelIdeal)
    ∧ quiescent_KernelIdeal_pre_moderate (hKernelIdeal := hKernelIdeal) (hPre_moderate := hPre_moderate)
    ∧ quiescent_ReferenceIdeal (hReferenceIdeal := hReferenceIdeal)
    ∧ quiescent_ReferenceIdeal_pre_moderate (hReferenceIdeal := hReferenceIdeal) (hPre_moderate := hPre_moderate)
    ∧ preserves_Kernel_KernelIdeal
    ∧ algebraic_KernelIdeal_ReferenceIdeal_pre_moderate (hKernelIdeal := hKernelIdeal) (hReferenceIdeal := hReferenceIdeal) (hPre_moderate := hPre_moderate)
-- ==== Pre_moderate.lean ====
abbrev S10000x128 : Shape := ⟨2, ![10000, 128]⟩
abbrev S2x320000 : Shape := ⟨2, ![2, 320000]⟩
abbrev S320000x16 : Shape := ⟨2, ![320000, 16]⟩
abbrev S128x128 : Shape := ⟨2, ![128, 128]⟩
abbrev S16x128 : Shape := ⟨2, ![16, 128]⟩
abbrev S128 : Shape := ⟨1, ![128]⟩
abbrev S_ : Shape := ⟨0, ![]⟩
abbrev S16 : Shape := ⟨1, ![16]⟩
abbrev S320000 : Shape := ⟨1, ![320000]⟩
abbrev S10000 : Shape := ⟨1, ![10000]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S320000x16 : S_.BroadcastsInDim S320000x16 (![] : Fin 0 → Fin S320000x16.rank)
  reducesTo_S320000x16_S_d0_1 : S320000x16.ReducesTo [0, 1] S_
  bcast_S_S128x128 : S_.BroadcastsInDim S128x128 (![] : Fin 0 → Fin S128x128.rank)
  reducesTo_S128x128_S_d0_1 : S128x128.ReducesTo [0, 1] S_
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S320000 : S_.BroadcastsInDim S320000 (![] : Fin 0 → Fin S320000.rank)
  reducesTo_S320000_S_d0 : S320000.ReducesTo [0] S_
  bcast_S_S10000 : S_.BroadcastsInDim S10000 (![] : Fin 0 → Fin S10000.rank)
  reducesTo_S10000_S_d0 : S10000.ReducesTo [0] S_
  dot_S16x128_S128_S16_1_0_0_n_n_n_wf : DotDims.WF S16x128 S128 S16 [1] [0] [0] [] [] []
  dot_S320000x16_S16_S320000_1_0_0_n_n_n_wf : DotDims.WF S320000x16 S16 S320000 [1] [0] [0] [] [] []
  dot_S128x128_S128_S128_1_0_0_n_n_n_wf : DotDims.WF S128x128 S128 S128 [1] [0] [0] [] [] []
  dot_S10000x128_S128_S10000_1_0_0_n_n_n_wf : DotDims.WF S10000x128 S128 S10000 [1] [0] [0] [] [] []

variable [Facts]

def dot_S16x128_S128_S16_1_0_0_n_n_n : DotDims S16x128 S128 S16 where
  lhsContracting := [1]
  rhsContracting := [0]
  lhsNonContracting := [0]
  rhsNonContracting := []
  lhsBatch := []
  rhsBatch := []
  wf := dot_S16x128_S128_S16_1_0_0_n_n_n_wf
def dot_S320000x16_S16_S320000_1_0_0_n_n_n : DotDims S320000x16 S16 S320000 where
  lhsContracting := [1]
  rhsContracting := [0]
  lhsNonContracting := [0]
  rhsNonContracting := []
  lhsBatch := []
  rhsBatch := []
  wf := dot_S320000x16_S16_S320000_1_0_0_n_n_n_wf
def dot_S128x128_S128_S128_1_0_0_n_n_n : DotDims S128x128 S128 S128 where
  lhsContracting := [1]
  rhsContracting := [0]
  lhsNonContracting := [0]
  rhsNonContracting := []
  lhsBatch := []
  rhsBatch := []
  wf := dot_S128x128_S128_S128_1_0_0_n_n_n_wf
def dot_S10000x128_S128_S10000_1_0_0_n_n_n : DotDims S10000x128 S128 S10000 where
  lhsContracting := [1]
  rhsContracting := [0]
  lhsNonContracting := [0]
  rhsNonContracting := []
  lhsBatch := []
  rhsBatch := []
  wf := dot_S10000x128_S128_S10000_1_0_0_n_n_n_wf
def fn_part8 {F : FTy → Type} [FloatOps F] (main_v138 : IVec S_ 1) (main_v140 : FVec F S128 .f32) (main_cst_48 : FVec F S_ .f32) : IVec S_ 1 :=
  let main_v141 : FVec F S_ .f32 := (fun x v => Host.reduceAdd x v reducesTo_S128_S_d0 h_S_) main_v140 main_cst_48
  let main_cst_49 : FVec F S_ .f32 := constant S_ .f32 0x41F00000#32
  let main_v142 : IVec S_ 1 := cmpf .ole main_v141 main_cst_49
  let main_v143 : IVec S_ 1 := andi main_v138 main_v142
  main_v143

def fn_part7 {F : FTy → Type} [FloatOps F] (main_arg9 : FVec F S128x128 .f32) (main_arg11 : FVec F S128 .f32) (main_arg12 : FVec F S128 .f32) (main_arg15 : FVec F S128x128 .f32) (main_arg17 : FVec F S128 .f32) (main_arg18 : FVec F S128 .f32) (main_v123 : IVec S_ 1) : IVec S_ 1 :=
  let main_v124 : FVec F S128 .f32 := (fun l r => Host.dotGeneral dot_S128x128_S128_S128_1_0_0_n_n_n none l r) main_arg9 main_arg11
  let main_v125 : FVec F S128 .f32 := Host.absf main_v124
  let main_cst_42 : FVec F S_ .f32 := constant S_ .f32 0x00000000#32
  let main_v126 : FVec F S_ .f32 := (fun x v => Host.reduceAdd x v reducesTo_S128_S_d0 h_S_) main_v125 main_cst_42
  let main_cst_43 : FVec F S_ .f32 := constant S_ .f32 0x41F00000#32
  let main_v127 : IVec S_ 1 := cmpf .ole main_v126 main_cst_43
  let main_v128 : IVec S_ 1 := andi main_v123 main_v127
  let main_v129 : FVec F S128 .f32 := (fun l r => Host.dotGeneral dot_S128x128_S128_S128_1_0_0_n_n_n none l r) main_arg9 main_arg12
  let main_v130 : FVec F S128 .f32 := Host.absf main_v129
  let main_cst_44 : FVec F S_ .f32 := constant S_ .f32 0x00000000#32
  let main_v131 : FVec F S_ .f32 := (fun x v => Host.reduceAdd x v reducesTo_S128_S_d0 h_S_) main_v130 main_cst_44
  let main_cst_45 : FVec F S_ .f32 := constant S_ .f32 0x41F00000#32
  let main_v132 : IVec S_ 1 := cmpf .ole main_v131 main_cst_45
  let main_v133 : IVec S_ 1 := andi main_v128 main_v132
  let main_v134 : FVec F S128 .f32 := (fun l r => Host.dotGeneral dot_S128x128_S128_S128_1_0_0_n_n_n none l r) main_arg15 main_arg17
  let main_v135 : FVec F S128 .f32 := Host.absf main_v134
  let main_cst_46 : FVec F S_ .f32 := constant S_ .f32 0x00000000#32
  let main_v136 : FVec F S_ .f32 := (fun x v => Host.reduceAdd x v reducesTo_S128_S_d0 h_S_) main_v135 main_cst_46
  let main_cst_47 : FVec F S_ .f32 := constant S_ .f32 0x41F00000#32
  let main_v137 : IVec S_ 1 := cmpf .ole main_v136 main_cst_47
  let main_v138 : IVec S_ 1 := andi main_v133 main_v137
  let main_v139 : FVec F S128 .f32 := (fun l r => Host.dotGeneral dot_S128x128_S128_S128_1_0_0_n_n_n none l r) main_arg15 main_arg18
  let main_v140 : FVec F S128 .f32 := Host.absf main_v139
  let main_cst_48 : FVec F S_ .f32 := constant S_ .f32 0x00000000#32
  fn_part8 (F := F) main_v138 main_v140 main_cst_48

def fn_part6 {F : FTy → Type} [FloatOps F] (main_arg0 : FVec F S10000x128 .f32) (main_arg3 : FVec F S128x128 .f32) (main_arg5 : FVec F S128 .f32) (main_arg6 : FVec F S128 .f32) (main_arg9 : FVec F S128x128 .f32) (main_arg11 : FVec F S128 .f32) (main_arg12 : FVec F S128 .f32) (main_arg15 : FVec F S128x128 .f32) (main_arg17 : FVec F S128 .f32) (main_arg18 : FVec F S128 .f32) (main_v99 : IVec S_ 1) (main_v103 : FVec F S320000 .f32) (main_v104 : FVec F S320000 .f32) : IVec S_ 1 :=
  let main_v105 : IVec S320000 1 := cmpf .ole main_v103 main_v104
  let main_c_37 : IVec S_ 1 := constantI S_ 1 1#1
  let main_v106 : IVec S_ 1 := (fun x v => Host.reduce IntOp.andi x v reducesTo_S320000_S_d0 h_S_) main_v105 main_c_37
  let main_v107 : IVec S_ 1 := andi main_v99 main_v106
  let main_v108 : FVec F S10000x128 .f32 := Host.absf main_arg0
  let main_v109 : FVec F S128 .f32 := (fun l r => Host.dotGeneral dot_S128x128_S128_S128_1_0_0_n_n_n none l r) main_arg3 main_arg5
  let main_v110 : FVec F S128 .f32 := Host.absf main_v109
  let main_v111 : FVec F S10000 .f32 := (fun l r => Host.dotGeneral dot_S10000x128_S128_S10000_1_0_0_n_n_n none l r) main_v108 main_v110
  let main_cst_38 : FVec F S_ .f32 := constant S_ .f32 0x41F00000#32
  let main_v112 : FVec F S10000 .f32 := broadcastInDim S10000 ![] bcast_S_S10000 main_cst_38
  let main_v113 : IVec S10000 1 := cmpf .ole main_v111 main_v112
  let main_c_39 : IVec S_ 1 := constantI S_ 1 1#1
  let main_v114 : IVec S_ 1 := (fun x v => Host.reduce IntOp.andi x v reducesTo_S10000_S_d0 h_S_) main_v113 main_c_39
  let main_v115 : IVec S_ 1 := andi main_v107 main_v114
  let main_v116 : FVec F S10000x128 .f32 := Host.absf main_arg0
  let main_v117 : FVec F S128 .f32 := (fun l r => Host.dotGeneral dot_S128x128_S128_S128_1_0_0_n_n_n none l r) main_arg3 main_arg6
  let main_v118 : FVec F S128 .f32 := Host.absf main_v117
  let main_v119 : FVec F S10000 .f32 := (fun l r => Host.dotGeneral dot_S10000x128_S128_S10000_1_0_0_n_n_n none l r) main_v116 main_v118
  let main_cst_40 : FVec F S_ .f32 := constant S_ .f32 0x41F00000#32
  let main_v120 : FVec F S10000 .f32 := broadcastInDim S10000 ![] bcast_S_S10000 main_cst_40
  let main_v121 : IVec S10000 1 := cmpf .ole main_v119 main_v120
  let main_c_41 : IVec S_ 1 := constantI S_ 1 1#1
  let main_v122 : IVec S_ 1 := (fun x v => Host.reduce IntOp.andi x v reducesTo_S10000_S_d0 h_S_) main_v121 main_c_41
  let main_v123 : IVec S_ 1 := andi main_v115 main_v122
  fn_part7 (F := F) main_arg9 main_arg11 main_arg12 main_arg15 main_arg17 main_arg18 main_v123

def fn_part5 {F : FTy → Type} [FloatOps F] (main_arg0 : FVec F S10000x128 .f32) (main_arg2 : FVec F S320000x16 .f32) (main_arg3 : FVec F S128x128 .f32) (main_arg5 : FVec F S128 .f32) (main_arg6 : FVec F S128 .f32) (main_arg9 : FVec F S128x128 .f32) (main_arg11 : FVec F S128 .f32) (main_arg12 : FVec F S128 .f32) (main_arg15 : FVec F S128x128 .f32) (main_arg16 : FVec F S16x128 .f32) (main_arg17 : FVec F S128 .f32) (main_arg18 : FVec F S128 .f32) (main_arg19 : FVec F S128 .f32) (main_v84 : IVec S_ 1) (main_v85 : FVec F S128 .f32) (main_v86 : FVec F S128 .f32) : IVec S_ 1 :=
  let main_v87 : IVec S128 1 := cmpf .olt main_v85 main_v86
  let main_c_31 : IVec S_ 1 := constantI S_ 1 1#1
  let main_v88 : IVec S_ 1 := (fun x v => Host.reduce IntOp.andi x v reducesTo_S128_S_d0 h_S_) main_v87 main_c_31
  let main_v89 : IVec S_ 1 := andi main_v84 main_v88
  let main_v90 : FVec F S128 .f32 := Host.absf main_arg18
  let main_cst_32 : FVec F S_ .f32 := constant S_ .f32 0x7F800000#32
  let main_v91 : FVec F S128 .f32 := broadcastInDim S128 ![] bcast_S_S128 main_cst_32
  let main_v92 : IVec S128 1 := cmpf .olt main_v90 main_v91
  let main_c_33 : IVec S_ 1 := constantI S_ 1 1#1
  let main_v93 : IVec S_ 1 := (fun x v => Host.reduce IntOp.andi x v reducesTo_S128_S_d0 h_S_) main_v92 main_c_33
  let main_v94 : IVec S_ 1 := andi main_v89 main_v93
  let main_v95 : FVec F S128 .f32 := Host.absf main_arg19
  let main_cst_34 : FVec F S_ .f32 := constant S_ .f32 0x7F800000#32
  let main_v96 : FVec F S128 .f32 := broadcastInDim S128 ![] bcast_S_S128 main_cst_34
  let main_v97 : IVec S128 1 := cmpf .olt main_v95 main_v96
  let main_c_35 : IVec S_ 1 := constantI S_ 1 1#1
  let main_v98 : IVec S_ 1 := (fun x v => Host.reduce IntOp.andi x v reducesTo_S128_S_d0 h_S_) main_v97 main_c_35
  let main_v99 : IVec S_ 1 := andi main_v94 main_v98
  let main_v100 : FVec F S320000x16 .f32 := Host.absf main_arg2
  let main_v101 : FVec F S16 .f32 := (fun l r => Host.dotGeneral dot_S16x128_S128_S16_1_0_0_n_n_n none l r) main_arg16 main_arg19
  let main_v102 : FVec F S16 .f32 := Host.absf main_v101
  let main_v103 : FVec F S320000 .f32 := (fun l r => Host.dotGeneral dot_S320000x16_S16_S320000_1_0_0_n_n_n none l r) main_v100 main_v102
  let main_cst_36 : FVec F S_ .f32 := constant S_ .f32 0x41F00000#32
  let main_v104 : FVec F S320000 .f32 := broadcastInDim S320000 ![] bcast_S_S320000 main_cst_36
  fn_part6 (F := F) main_arg0 main_arg3 main_arg5 main_arg6 main_arg9 main_arg11 main_arg12 main_arg15 main_arg17 main_arg18 main_v99 main_v103 main_v104

def fn_part4 {F : FTy → Type} [FloatOps F] (main_arg0 : FVec F S10000x128 .f32) (main_arg2 : FVec F S320000x16 .f32) (main_arg3 : FVec F S128x128 .f32) (main_arg5 : FVec F S128 .f32) (main_arg6 : FVec F S128 .f32) (main_arg9 : FVec F S128x128 .f32) (main_arg11 : FVec F S128 .f32) (main_arg12 : FVec F S128 .f32) (main_arg15 : FVec F S128x128 .f32) (main_arg16 : FVec F S16x128 .f32) (main_arg17 : FVec F S128 .f32) (main_arg18 : FVec F S128 .f32) (main_arg19 : FVec F S128 .f32) (main_v66 : IVec S_ 1) (main_v67 : FVec F S320000x16 .f32) (main_v69 : FVec F S16 .f32) : IVec S_ 1 :=
  let main_v70 : FVec F S320000 .f32 := (fun l r => Host.dotGeneral dot_S320000x16_S16_S320000_1_0_0_n_n_n none l r) main_v67 main_v69
  let main_cst_24 : FVec F S_ .f32 := constant S_ .f32 0x41F00000#32
  let main_v71 : FVec F S320000 .f32 := broadcastInDim S320000 ![] bcast_S_S320000 main_cst_24
  let main_v72 : IVec S320000 1 := cmpf .ole main_v70 main_v71
  let main_c_25 : IVec S_ 1 := constantI S_ 1 1#1
  let main_v73 : IVec S_ 1 := (fun x v => Host.reduce IntOp.andi x v reducesTo_S320000_S_d0 h_S_) main_v72 main_c_25
  let main_v74 : IVec S_ 1 := andi main_v66 main_v73
  let main_v75 : FVec F S128x128 .f32 := Host.absf main_arg15
  let main_cst_26 : FVec F S_ .f32 := constant S_ .f32 0x7F800000#32
  let main_v76 : FVec F S128x128 .f32 := broadcastInDim S128x128 ![] bcast_S_S128x128 main_cst_26
  let main_v77 : IVec S128x128 1 := cmpf .olt main_v75 main_v76
  let main_c_27 : IVec S_ 1 := constantI S_ 1 1#1
  let main_v78 : IVec S_ 1 := (fun x v => Host.reduce IntOp.andi x v reducesTo_S128x128_S_d0_1 h_S_) main_v77 main_c_27
  let main_v79 : IVec S_ 1 := andi main_v74 main_v78
  let main_v80 : FVec F S16x128 .f32 := Host.absf main_arg16
  let main_cst_28 : FVec F S_ .f32 := constant S_ .f32 0x7F800000#32
  let main_v81 : FVec F S16x128 .f32 := broadcastInDim S16x128 ![] bcast_S_S16x128 main_cst_28
  let main_v82 : IVec S16x128 1 := cmpf .olt main_v80 main_v81
  let main_c_29 : IVec S_ 1 := constantI S_ 1 1#1
  let main_v83 : IVec S_ 1 := (fun x v => Host.reduce IntOp.andi x v reducesTo_S16x128_S_d0_1 h_S_) main_v82 main_c_29
  let main_v84 : IVec S_ 1 := andi main_v79 main_v83
  let main_v85 : FVec F S128 .f32 := Host.absf main_arg17
  let main_cst_30 : FVec F S_ .f32 := constant S_ .f32 0x7F800000#32
  let main_v86 : FVec F S128 .f32 := broadcastInDim S128 ![] bcast_S_S128 main_cst_30
  fn_part5 (F := F) main_arg0 main_arg2 main_arg3 main_arg5 main_arg6 main_arg9 main_arg11 main_arg12 main_arg15 main_arg16 main_arg17 main_arg18 main_arg19 main_v84 main_v85 main_v86

def fn_part3 {F : FTy → Type} [FloatOps F] (main_arg0 : FVec F S10000x128 .f32) (main_arg2 : FVec F S320000x16 .f32) (main_arg3 : FVec F S128x128 .f32) (main_arg5 : FVec F S128 .f32) (main_arg6 : FVec F S128 .f32) (main_arg9 : FVec F S128x128 .f32) (main_arg10 : FVec F S16x128 .f32) (main_arg11 : FVec F S128 .f32) (main_arg12 : FVec F S128 .f32) (main_arg13 : FVec F S128 .f32) (main_arg15 : FVec F S128x128 .f32) (main_arg16 : FVec F S16x128 .f32) (main_arg17 : FVec F S128 .f32) (main_arg18 : FVec F S128 .f32) (main_arg19 : FVec F S128 .f32) (main_v51 : IVec S_ 1) : IVec S_ 1 :=
  let main_v52 : FVec F S128 .f32 := Host.absf main_arg11
  let main_cst_18 : FVec F S_ .f32 := constant S_ .f32 0x7F800000#32
  let main_v53 : FVec F S128 .f32 := broadcastInDim S128 ![] bcast_S_S128 main_cst_18
  let main_v54 : IVec S128 1 := cmpf .olt main_v52 main_v53
  let main_c_19 : IVec S_ 1 := constantI S_ 1 1#1
  let main_v55 : IVec S_ 1 := (fun x v => Host.reduce IntOp.andi x v reducesTo_S128_S_d0 h_S_) main_v54 main_c_19
  let main_v56 : IVec S_ 1 := andi main_v51 main_v55
  let main_v57 : FVec F S128 .f32 := Host.absf main_arg12
  let main_cst_20 : FVec F S_ .f32 := constant S_ .f32 0x7F800000#32
  let main_v58 : FVec F S128 .f32 := broadcastInDim S128 ![] bcast_S_S128 main_cst_20
  let main_v59 : IVec S128 1 := cmpf .olt main_v57 main_v58
  let main_c_21 : IVec S_ 1 := constantI S_ 1 1#1
  let main_v60 : IVec S_ 1 := (fun x v => Host.reduce IntOp.andi x v reducesTo_S128_S_d0 h_S_) main_v59 main_c_21
  let main_v61 : IVec S_ 1 := andi main_v56 main_v60
  let main_v62 : FVec F S128 .f32 := Host.absf main_arg13
  let main_cst_22 : FVec F S_ .f32 := constant S_ .f32 0x7F800000#32
  let main_v63 : FVec F S128 .f32 := broadcastInDim S128 ![] bcast_S_S128 main_cst_22
  let main_v64 : IVec S128 1 := cmpf .olt main_v62 main_v63
  let main_c_23 : IVec S_ 1 := constantI S_ 1 1#1
  let main_v65 : IVec S_ 1 := (fun x v => Host.reduce IntOp.andi x v reducesTo_S128_S_d0 h_S_) main_v64 main_c_23
  let main_v66 : IVec S_ 1 := andi main_v61 main_v65
  let main_v67 : FVec F S320000x16 .f32 := Host.absf main_arg2
  let main_v68 : FVec F S16 .f32 := (fun l r => Host.dotGeneral dot_S16x128_S128_S16_1_0_0_n_n_n none l r) main_arg10 main_arg13
  let main_v69 : FVec F S16 .f32 := Host.absf main_v68
  fn_part4 (F := F) main_arg0 main_arg2 main_arg3 main_arg5 main_arg6 main_arg9 main_arg11 main_arg12 main_arg15 main_arg16 main_arg17 main_arg18 main_arg19 main_v66 main_v67 main_v69

def fn_part2 {F : FTy → Type} [FloatOps F] (main_arg0 : FVec F S10000x128 .f32) (main_arg2 : FVec F S320000x16 .f32) (main_arg3 : FVec F S128x128 .f32) (main_arg4 : FVec F S16x128 .f32) (main_arg5 : FVec F S128 .f32) (main_arg6 : FVec F S128 .f32) (main_arg7 : FVec F S128 .f32) (main_arg9 : FVec F S128x128 .f32) (main_arg10 : FVec F S16x128 .f32) (main_arg11 : FVec F S128 .f32) (main_arg12 : FVec F S128 .f32) (main_arg13 : FVec F S128 .f32) (main_arg15 : FVec F S128x128 .f32) (main_arg16 : FVec F S16x128 .f32) (main_arg17 : FVec F S128 .f32) (main_arg18 : FVec F S128 .f32) (main_arg19 : FVec F S128 .f32) (main_v33 : IVec S_ 1) : IVec S_ 1 :=
  let main_v34 : FVec F S320000x16 .f32 := Host.absf main_arg2
  let main_v35 : FVec F S16 .f32 := (fun l r => Host.dotGeneral dot_S16x128_S128_S16_1_0_0_n_n_n none l r) main_arg4 main_arg7
  let main_v36 : FVec F S16 .f32 := Host.absf main_v35
  let main_v37 : FVec F S320000 .f32 := (fun l r => Host.dotGeneral dot_S320000x16_S16_S320000_1_0_0_n_n_n none l r) main_v34 main_v36
  let main_cst_12 : FVec F S_ .f32 := constant S_ .f32 0x41F00000#32
  let main_v38 : FVec F S320000 .f32 := broadcastInDim S320000 ![] bcast_S_S320000 main_cst_12
  let main_v39 : IVec S320000 1 := cmpf .ole main_v37 main_v38
  let main_c_13 : IVec S_ 1 := constantI S_ 1 1#1
  let main_v40 : IVec S_ 1 := (fun x v => Host.reduce IntOp.andi x v reducesTo_S320000_S_d0 h_S_) main_v39 main_c_13
  let main_v41 : IVec S_ 1 := andi main_v33 main_v40
  let main_v42 : FVec F S128x128 .f32 := Host.absf main_arg9
  let main_cst_14 : FVec F S_ .f32 := constant S_ .f32 0x7F800000#32
  let main_v43 : FVec F S128x128 .f32 := broadcastInDim S128x128 ![] bcast_S_S128x128 main_cst_14
  let main_v44 : IVec S128x128 1 := cmpf .olt main_v42 main_v43
  let main_c_15 : IVec S_ 1 := constantI S_ 1 1#1
  let main_v45 : IVec S_ 1 := (fun x v => Host.reduce IntOp.andi x v reducesTo_S128x128_S_d0_1 h_S_) main_v44 main_c_15
  let main_v46 : IVec S_ 1 := andi main_v41 main_v45
  let main_v47 : FVec F S16x128 .f32 := Host.absf main_arg10
  let main_cst_16 : FVec F S_ .f32 := constant S_ .f32 0x7F800000#32
  let main_v48 : FVec F S16x128 .f32 := broadcastInDim S16x128 ![] bcast_S_S16x128 main_cst_16
  let main_v49 : IVec S16x128 1 := cmpf .olt main_v47 main_v48
  let main_c_17 : IVec S_ 1 := constantI S_ 1 1#1
  let main_v50 : IVec S_ 1 := (fun x v => Host.reduce IntOp.andi x v reducesTo_S16x128_S_d0_1 h_S_) main_v49 main_c_17
  let main_v51 : IVec S_ 1 := andi main_v46 main_v50
  fn_part3 (F := F) main_arg0 main_arg2 main_arg3 main_arg5 main_arg6 main_arg9 main_arg10 main_arg11 main_arg12 main_arg13 main_arg15 main_arg16 main_arg17 main_arg18 main_arg19 main_v51

def fn_part1 {F : FTy → Type} [FloatOps F] (main_arg0 : FVec F S10000x128 .f32) (main_arg2 : FVec F S320000x16 .f32) (main_arg3 : FVec F S128x128 .f32) (main_arg4 : FVec F S16x128 .f32) (main_arg5 : FVec F S128 .f32) (main_arg6 : FVec F S128 .f32) (main_arg7 : FVec F S128 .f32) (main_arg9 : FVec F S128x128 .f32) (main_arg10 : FVec F S16x128 .f32) (main_arg11 : FVec F S128 .f32) (main_arg12 : FVec F S128 .f32) (main_arg13 : FVec F S128 .f32) (main_arg15 : FVec F S128x128 .f32) (main_arg16 : FVec F S16x128 .f32) (main_arg17 : FVec F S128 .f32) (main_arg18 : FVec F S128 .f32) (main_arg19 : FVec F S128 .f32) (main_v13 : IVec S_ 1) (main_v16 : IVec S16x128 1) : IVec S_ 1 :=
  let main_c_5 : IVec S_ 1 := constantI S_ 1 1#1
  let main_v17 : IVec S_ 1 := (fun x v => Host.reduce IntOp.andi x v reducesTo_S16x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg0 main_arg2 main_arg3 main_arg4 main_arg5 main_arg6 main_arg7 main_arg9 main_arg10 main_arg11 main_arg12 main_arg13 main_arg15 main_arg16 main_arg17 main_arg18 main_arg19 main_v33

def fn {F : FTy → Type} [FloatOps F] (main_arg0 : FVec F S10000x128 .f32) (main_arg1 : IVec S2x320000 32) (main_arg2 : FVec F S320000x16 .f32) (main_arg3 : FVec F S128x128 .f32) (main_arg4 : FVec F S16x128 .f32) (main_arg5 : FVec F S128 .f32) (main_arg6 : FVec F S128 .f32) (main_arg7 : FVec F S128 .f32) (main_arg8 : FVec F S128 .f32) (main_arg9 : FVec F S128x128 .f32) (main_arg10 : FVec F S16x128 .f32) (main_arg11 : FVec F S128 .f32) (main_arg12 : FVec F S128 .f32) (main_arg13 : FVec F S128 .f32) (main_arg14 : FVec F S128 .f32) (main_arg15 : FVec F S128x128 .f32) (main_arg16 : FVec F S16x128 .f32) (main_arg17 : FVec F S128 .f32) (main_arg18 : FVec F S128 .f32) (main_arg19 : FVec F S128 .f32) (main_arg20 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S320000x16 .f32 := Host.absf main_arg2
  let main_cst_0 : FVec F S_ .f32 := constant S_ .f32 0x7F800000#32
  let main_v5 : FVec F S320000x16 .f32 := broadcastInDim S320000x16 ![] bcast_S_S320000x16 main_cst_0
  let main_v6 : IVec S320000x16 1 := cmpf .olt main_v4 main_v5
  let main_c_1 : IVec S_ 1 := constantI S_ 1 1#1
  let main_v7 : IVec S_ 1 := (fun x v => Host.reduce IntOp.andi x v reducesTo_S320000x16_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S16x128 .f32 := Host.absf main_arg4
  let main_cst_4 : FVec F S_ .f32 := constant S_ .f32 0x7F800000#32
  let main_v15 : FVec F S16x128 .f32 := broadcastInDim S16x128 ![] bcast_S_S16x128 main_cst_4
  let main_v16 : IVec S16x128 1 := cmpf .olt main_v14 main_v15
  fn_part1 (F := F) main_arg0 main_arg2 main_arg3 main_arg4 main_arg5 main_arg6 main_arg7 main_arg9 main_arg10 main_arg11 main_arg12 main_arg13 main_arg15 main_arg16 main_arg17 main_arg18 main_arg19 main_v13 main_v16
-- ==== Kernel.lean ====
abbrev S10000x128 : Shape := ⟨2, ![10000, 128]⟩
abbrev S2x320000 : Shape := ⟨2, ![2, 320000]⟩
abbrev S320000x16 : Shape := ⟨2, ![320000, 16]⟩
abbrev S128x128 : Shape := ⟨2, ![128, 128]⟩
abbrev S16x128 : Shape := ⟨2, ![16, 128]⟩
abbrev S128 : Shape := ⟨1, ![128]⟩
abbrev S1x320000 : Shape := ⟨2, ![1, 320000]⟩
abbrev S320000 : Shape := ⟨1, ![320000]⟩
abbrev S40000x128 : Shape := ⟨2, ![40000, 128]⟩
abbrev S128x1 : Shape := ⟨2, ![128, 1]⟩
abbrev S40000x8 : Shape := ⟨2, ![40000, 8]⟩
abbrev S16x1 : Shape := ⟨2, ![16, 1]⟩
abbrev S128x8 : Shape := ⟨2, ![128, 8]⟩
abbrev S128x2 : Shape := ⟨2, ![128, 2]⟩
abbrev S10000x1 : Shape := ⟨2, ![10000, 1]⟩
abbrev S10000 : Shape := ⟨1, ![10000]⟩
abbrev S_ : Shape := ⟨0, ![]⟩
abbrev S320000x1 : Shape := ⟨2, ![320000, 1]⟩
abbrev S320000x128 : Shape := ⟨2, ![320000, 128]⟩
abbrev S10000x16 : Shape := ⟨2, ![10000, 16]⟩
abbrev S10000x15 : Shape := ⟨2, ![10000, 15]⟩
abbrev S10000x32 : Shape := ⟨2, ![10000, 32]⟩
abbrev S1x10000x128 : Shape := ⟨3, ![1, 10000, 128]⟩
abbrev S2x10000x128 : Shape := ⟨3, ![2, 10000, 128]⟩
abbrev S1x10000x32 : Shape := ⟨3, ![1, 10000, 32]⟩
abbrev S2x10000x32 : Shape := ⟨3, ![2, 10000, 32]⟩
abbrev S1x128 : Shape := ⟨2, ![1, 128]⟩

abbrev nBuf : Space → Nat
  | .hbm => 353
  | .vmem => 56
  | .smem => 0
  | _ => 0

abbrev hbmTy0_0 (i : Nat) : BufTy := match i % 128 with
  | 0 => ⟨S10000x128, .f32⟩
  | 1 => ⟨S2x320000, .i32⟩
  | 2 => ⟨S320000x16, .f32⟩
  | 3 => ⟨S128x128, .f32⟩
  | 4 => ⟨S16x128, .f32⟩
  | 5 => ⟨S128, .f32⟩
  | 6 => ⟨S128, .f32⟩
  | 7 => ⟨S128, .f32⟩
  | 8 => ⟨S128, .f32⟩
  | 9 => ⟨S128x128, .f32⟩
  | 10 => ⟨S16x128, .f32⟩
  | 11 => ⟨S128, .f32⟩
  | 12 => ⟨S128, .f32⟩
  | 13 => ⟨S128, .f32⟩
  | 14 => ⟨S128, .f32⟩
  | 15 => ⟨S128x128, .f32⟩
  | 16 => ⟨S16x128, .f32⟩
  | 17 => ⟨S128, .f32⟩
  | 18 => ⟨S128, .f32⟩
  | 19 => ⟨S128, .f32⟩
  | 20 => ⟨S128, .f32⟩
  | 21 => ⟨S1x320000, .i32⟩
  | 22 => ⟨S320000, .i32⟩
  | 23 => ⟨S1x320000, .i32⟩
  | 24 => ⟨S320000, .i32⟩
  | 25 => ⟨S40000x128, .f32⟩
  | 26 => ⟨S128x1, .f32⟩
  | 27 => ⟨S40000x8, .f32⟩
  | 28 => ⟨S320000, .f32⟩
  | 29 => ⟨S40000x128, .f32⟩
  | 30 => ⟨S128x1, .f32⟩
  | 31 => ⟨S40000x8, .f32⟩
  | 32 => ⟨S320000, .f32⟩
  | 33 => ⟨S40000x128, .f32⟩
  | 34 => ⟨S128x1, .f32⟩
  | 35 => ⟨S40000x8, .f32⟩
  | 36 => ⟨S320000, .f32⟩
  | 37 => ⟨S128x1, .f32⟩
  | 38 => ⟨S128x1, .f32⟩
  | 39 => ⟨S128x2, .f32⟩
  | 40 => ⟨S10000x128, .f32⟩
  | 41 => ⟨S10000x1, .f32⟩
  | 42 => ⟨S10000x1, .f32⟩
  | 43 => ⟨S10000, .f32⟩
  | 44 => ⟨S10000, .f32⟩
  | 45 => ⟨S_, .i32⟩
  | 46 => ⟨S320000, .i32⟩
  | 47 => ⟨S320000, .i1⟩
  | 48 => ⟨S_, .i32⟩
  | 49 => ⟨S320000, .i32⟩
  | 50 => ⟨S320000, .i32⟩
  | 51 => ⟨S320000, .i32⟩
  | 52 => ⟨S320000x1, .i32⟩
  | 53 => ⟨S320000, .f32⟩
  | 54 => ⟨S_, .i32⟩
  | 55 => ⟨S320000, .i32⟩
  | 56 => ⟨S320000, .i1⟩
  | 57 => ⟨S_, .i32⟩
  | 58 => ⟨S320000, .i32⟩
  | 59 => ⟨S320000, .i32⟩
  | 60 => ⟨S320000, .i32⟩
  | 61 => ⟨S320000x1, .i32⟩
  | 62 => ⟨S320000, .f32⟩
  | 63 => ⟨S320000, .f32⟩
  | 64 => ⟨S320000, .f32⟩
  | 65 => ⟨S_, .f32⟩
  | 66 => ⟨S320000, .f32⟩
  | 67 => ⟨S320000, .i1⟩
  | 68 => ⟨S_, .f32⟩
  | 69 => ⟨S320000, .f32⟩
  | 70 => ⟨S320000, .f32⟩
  | 71 => ⟨S320000, .f32⟩
  | 72 => ⟨S320000, .f32⟩
  | 73 => ⟨S320000x1, .f32⟩
  | 74 => ⟨S_, .i32⟩
  | 75 => ⟨S320000, .i32⟩
  | 76 => ⟨S320000, .i1⟩
  | 77 => ⟨S_, .i32⟩
  | 78 => ⟨S320000, .i32⟩
  | 79 => ⟨S320000, .i32⟩
  | 80 => ⟨S320000, .i32⟩
  | 81 => ⟨S320000x1, .i32⟩
  | 82 => ⟨S320000x128, .f32⟩
  | 83 => ⟨S320000x128, .f32⟩
  | 84 => ⟨S320000x128, .f32⟩
  | 85 => ⟨S_, .f32⟩
  | 86 => ⟨S10000x128, .f32⟩
  | 87 => ⟨S320000x1, .i32⟩
  | 88 => ⟨S10000x128, .f32⟩
  | 89 => ⟨S320000x1, .f32⟩
  | 90 => ⟨S320000x16, .f32⟩
  | 91 => ⟨S320000x16, .f32⟩
  | 92 => ⟨S_, .f32⟩
  | 93 => ⟨S10000x16, .f32⟩
  | 94 => ⟨S320000x1, .i32⟩
  | 95 => ⟨S10000x16, .f32⟩
  | 96 => ⟨S_, .f32⟩
  | 97 => ⟨S10000, .f32⟩
  | 98 => ⟨S320000x1, .i32⟩
  | 99 => ⟨S10000, .f32⟩
  | 100 => ⟨S_, .f32⟩
  | 101 => ⟨S10000x15, .f32⟩
  | 102 => ⟨S10000x1, .f32⟩
  | 103 => ⟨S10000x32, .f32⟩
  | 104 => ⟨S_, .f32⟩
  | 105 => ⟨S10000x128, .f32⟩
  | 106 => ⟨S_, .f32⟩
  | 107 => ⟨S10000x32, .f32⟩
  | 108 => ⟨S1x10000x128, .f32⟩
  | 109 => ⟨S1x10000x128, .f32⟩
  | 110 => ⟨S2x10000x128, .f32⟩
  | 111 => ⟨S1x10000x32, .f32⟩
  | 112 => ⟨S1x10000x32, .f32⟩
  | 113 => ⟨S2x10000x32, .f32⟩
  | 114 => ⟨S1x128, .f32⟩
  | 115 => ⟨S10000x128, .f32⟩
  | 116 => ⟨S128x1, .f32⟩
  | 117 => ⟨S128x1, .f32⟩
  | 118 => ⟨S128x2, .f32⟩
  | 119 => ⟨S10000x128, .f32⟩
  | 120 => ⟨S10000x1, .f32⟩
  | 121 => ⟨S10000x1, .f32⟩
  | 122 => ⟨S10000, .f32⟩
  | 123 => ⟨S10000, .f32⟩
  | 124 => ⟨S_, .i32⟩
  | 125 => ⟨S320000, .i32⟩
  | 126 => ⟨S320000, .i1⟩
  | 127 => ⟨S_, .i32⟩
  | _ => ⟨S10000x128, .f32⟩

abbrev hbmTy0_1 (i : Nat) : BufTy := match i % 128 with
  | 0 => ⟨S320000, .i32⟩
  | 1 => ⟨S320000, .i32⟩
  | 2 => ⟨S320000, .i32⟩
  | 3 => ⟨S320000x1, .i32⟩
  | 4 => ⟨S320000, .f32⟩
  | 5 => ⟨S_, .i32⟩
  | 6 => ⟨S320000, .i32⟩
  | 7 => ⟨S320000, .i1⟩
  | 8 => ⟨S_, .i32⟩
  | 9 => ⟨S320000, .i32⟩
  | 10 => ⟨S320000, .i32⟩
  | 11 => ⟨S320000, .i32⟩
  | 12 => ⟨S320000x1, .i32⟩
  | 13 => ⟨S320000, .f32⟩
  | 14 => ⟨S320000, .f32⟩
  | 15 => ⟨S320000, .f32⟩
  | 16 => ⟨S_, .f32⟩
  | 17 => ⟨S320000, .f32⟩
  | 18 => ⟨S320000, .i1⟩
  | 19 => ⟨S_, .f32⟩
  | 20 => ⟨S320000, .f32⟩
  | 21 => ⟨S320000, .f32⟩
  | 22 => ⟨S320000, .f32⟩
  | 23 => ⟨S320000, .f32⟩
  | 24 => ⟨S320000x1, .f32⟩
  | 25 => ⟨S_, .i32⟩
  | 26 => ⟨S320000, .i32⟩
  | 27 => ⟨S320000, .i1⟩
  | 28 => ⟨S_, .i32⟩
  | 29 => ⟨S320000, .i32⟩
  | 30 => ⟨S320000, .i32⟩
  | 31 => ⟨S320000, .i32⟩
  | 32 => ⟨S320000x1, .i32⟩
  | 33 => ⟨S320000x128, .f32⟩
  | 34 => ⟨S320000x128, .f32⟩
  | 35 => ⟨S320000x128, .f32⟩
  | 36 => ⟨S_, .f32⟩
  | 37 => ⟨S10000x128, .f32⟩
  | 38 => ⟨S320000x1, .i32⟩
  | 39 => ⟨S10000x128, .f32⟩
  | 40 => ⟨S320000x1, .f32⟩
  | 41 => ⟨S320000x16, .f32⟩
  | 42 => ⟨S320000x16, .f32⟩
  | 43 => ⟨S_, .f32⟩
  | 44 => ⟨S10000x16, .f32⟩
  | 45 => ⟨S320000x1, .i32⟩
  | 46 => ⟨S10000x16, .f32⟩
  | 47 => ⟨S_, .f32⟩
  | 48 => ⟨S10000, .f32⟩
  | 49 => ⟨S320000x1, .i32⟩
  | 50 => ⟨S10000, .f32⟩
  | 51 => ⟨S_, .f32⟩
  | 52 => ⟨S10000x15, .f32⟩
  | 53 => ⟨S10000x1, .f32⟩
  | 54 => ⟨S10000x32, .f32⟩
  | 55 => ⟨S_, .f32⟩
  | 56 => ⟨S10000x128, .f32⟩
  | 57 => ⟨S_, .f32⟩
  | 58 => ⟨S10000x32, .f32⟩
  | 59 => ⟨S1x10000x128, .f32⟩
  | 60 => ⟨S1x10000x128, .f32⟩
  | 61 => ⟨S2x10000x128, .f32⟩
  | 62 => ⟨S1x10000x32, .f32⟩
  | 63 => ⟨S1x10000x32, .f32⟩
  | 64 => ⟨S2x10000x32, .f32⟩
  | 65 => ⟨S1x128, .f32⟩
  | 66 => ⟨S10000x128, .f32⟩
  | 67 => ⟨S128x1, .f32⟩
  | 68 => ⟨S128x1, .f32⟩
  | 69 => ⟨S128x2, .f32⟩
  | 70 => ⟨S10000x128, .f32⟩
  | 71 => ⟨S10000x1, .f32⟩
  | 72 => ⟨S10000x1, .f32⟩
  | 73 => ⟨S10000, .f32⟩
  | 74 => ⟨S10000, .f32⟩
  | 75 => ⟨S_, .i32⟩
  | 76 => ⟨S320000, .i32⟩
  | 77 => ⟨S320000, .i1⟩
  | 78 => ⟨S_, .i32⟩
  | 79 => ⟨S320000, .i32⟩
  | 80 => ⟨S320000, .i32⟩
  | 81 => ⟨S320000, .i32⟩
  | 82 => ⟨S320000x1, .i32⟩
  | 83 => ⟨S320000, .f32⟩
  | 84 => ⟨S_, .i32⟩
  | 85 => ⟨S320000, .i32⟩
  | 86 => ⟨S320000, .i1⟩
  | 87 => ⟨S_, .i32⟩
  | 88 => ⟨S320000, .i32⟩
  | 89 => ⟨S320000, .i32⟩
  | 90 => ⟨S320000, .i32⟩
  | 91 => ⟨S320000x1, .i32⟩
  | 92 => ⟨S320000, .f32⟩
  | 93 => ⟨S320000, .f32⟩
  | 94 => ⟨S320000, .f32⟩
  | 95 => ⟨S_, .f32⟩
  | 96 => ⟨S320000, .f32⟩
  | 97 => ⟨S320000, .i1⟩
  | 98 => ⟨S_, .f32⟩
  | 99 => ⟨S320000, .f32⟩
  | 100 => ⟨S320000, .f32⟩
  | 101 => ⟨S320000, .f32⟩
  | 102 => ⟨S320000, .f32⟩
  | 103 => ⟨S320000x1, .f32⟩
  | 104 => ⟨S_, .i32⟩
  | 105 => ⟨S320000, .i32⟩
  | 106 => ⟨S320000, .i1⟩
  | 107 => ⟨S_, .i32⟩
  | 108 => ⟨S320000, .i32⟩
  | 109 => ⟨S320000, .i32⟩
  | 110 => ⟨S320000, .i32⟩
  | 111 => ⟨S320000x1, .i32⟩
  | 112 => ⟨S320000x128, .f32⟩
  | 113 => ⟨S320000x128, .f32⟩
  | 114 => ⟨S320000x128, .f32⟩
  | 115 => ⟨S_, .f32⟩
  | 116 => ⟨S10000x128, .f32⟩
  | 117 => ⟨S320000x1, .i32⟩
  | 118 => ⟨S10000x128, .f32⟩
  | 119 => ⟨S320000x1, .f32⟩
  | 120 => ⟨S320000x16, .f32⟩
  | 121 => ⟨S320000x16, .f32⟩
  | 122 => ⟨S_, .f32⟩
  | 123 => ⟨S10000x16, .f32⟩
  | 124 => ⟨S320000x1, .i32⟩
  | 125 => ⟨S10000x16, .f32⟩
  | 126 => ⟨S_, .f32⟩
  | 127 => ⟨S10000, .f32⟩
  | _ => ⟨S10000x128, .f32⟩

abbrev hbmTy0_2 (i : Nat) : BufTy := match i % 128 with
  | 0 => ⟨S320000x1, .i32⟩
  | 1 => ⟨S10000, .f32⟩
  | 2 => ⟨S_, .f32⟩
  | 3 => ⟨S10000x15, .f32⟩
  | 4 => ⟨S10000x1, .f32⟩
  | 5 => ⟨S10000x32, .f32⟩
  | 6 => ⟨S_, .f32⟩
  | 7 => ⟨S10000x128, .f32⟩
  | 8 => ⟨S_, .f32⟩
  | 9 => ⟨S10000x32, .f32⟩
  | 10 => ⟨S1x10000x128, .f32⟩
  | 11 => ⟨S1x10000x128, .f32⟩
  | 12 => ⟨S2x10000x128, .f32⟩
  | 13 => ⟨S1x10000x32, .f32⟩
  | 14 => ⟨S1x10000x32, .f32⟩
  | 15 => ⟨S2x10000x32, .f32⟩
  | 16 => ⟨S1x128, .f32⟩
  | 17 => ⟨S10000x128, .f32⟩
  | 18 => ⟨S128x1, .f32⟩
  | 19 => ⟨S128x1, .f32⟩
  | 20 => ⟨S128x2, .f32⟩
  | 21 => ⟨S10000x128, .f32⟩
  | 22 => ⟨S10000x1, .f32⟩
  | 23 => ⟨S10000x1, .f32⟩
  | 24 => ⟨S10000, .f32⟩
  | 25 => ⟨S10000, .f32⟩
  | 26 => ⟨S_, .i32⟩
  | 27 => ⟨S320000, .i32⟩
  | 28 => ⟨S320000, .i1⟩
  | 29 => ⟨S_, .i32⟩
  | 30 => ⟨S320000, .i32⟩
  | 31 => ⟨S320000, .i32⟩
  | 32 => ⟨S320000, .i32⟩
  | 33 => ⟨S320000x1, .i32⟩
  | 34 => ⟨S320000, .f32⟩
  | 35 => ⟨S_, .i32⟩
  | 36 => ⟨S320000, .i32⟩
  | 37 => ⟨S320000, .i1⟩
  | 38 => ⟨S_, .i32⟩
  | 39 => ⟨S320000, .i32⟩
  | 40 => ⟨S320000, .i32⟩
  | 41 => ⟨S320000, .i32⟩
  | 42 => ⟨S320000x1, .i32⟩
  | 43 => ⟨S320000, .f32⟩
  | 44 => ⟨S320000, .f32⟩
  | 45 => ⟨S320000, .f32⟩
  | 46 => ⟨S_, .f32⟩
  | 47 => ⟨S320000, .f32⟩
  | 48 => ⟨S320000, .i1⟩
  | 49 => ⟨S_, .f32⟩
  | 50 => ⟨S320000, .f32⟩
  | 51 => ⟨S320000, .f32⟩
  | 52 => ⟨S320000, .f32⟩
  | 53 => ⟨S320000, .f32⟩
  | 54 => ⟨S320000x1, .f32⟩
  | 55 => ⟨S_, .i32⟩
  | 56 => ⟨S320000, .i32⟩
  | 57 => ⟨S320000, .i1⟩
  | 58 => ⟨S_, .i32⟩
  | 59 => ⟨S320000, .i32⟩
  | 60 => ⟨S320000, .i32⟩
  | 61 => ⟨S320000, .i32⟩
  | 62 => ⟨S320000x1, .i32⟩
  | 63 => ⟨S320000x128, .f32⟩
  | 64 => ⟨S320000x128, .f32⟩
  | 65 => ⟨S320000x128, .f32⟩
  | 66 => ⟨S_, .f32⟩
  | 67 => ⟨S10000x128, .f32⟩
  | 68 => ⟨S320000x1, .i32⟩
  | 69 => ⟨S10000x128, .f32⟩
  | 70 => ⟨S320000x1, .f32⟩
  | 71 => ⟨S320000x16, .f32⟩
  | 72 => ⟨S320000x16, .f32⟩
  | 73 => ⟨S_, .f32⟩
  | 74 => ⟨S10000x16, .f32⟩
  | 75 => ⟨S320000x1, .i32⟩
  | 76 => ⟨S10000x16, .f32⟩
  | 77 => ⟨S_, .f32⟩
  | 78 => ⟨S10000, .f32⟩
  | 79 => ⟨S320000x1, .i32⟩
  | 80 => ⟨S10000, .f32⟩
  | 81 => ⟨S_, .f32⟩
  | 82 => ⟨S10000x15, .f32⟩
  | 83 => ⟨S10000x1, .f32⟩
  | 84 => ⟨S10000x32, .f32⟩
  | 85 => ⟨S_, .f32⟩
  | 86 => ⟨S10000x128, .f32⟩
  | 87 => ⟨S_, .f32⟩
  | 88 => ⟨S10000x32, .f32⟩
  | 89 => ⟨S1x10000x128, .f32⟩
  | 90 => ⟨S1x10000x128, .f32⟩
  | 91 => ⟨S2x10000x128, .f32⟩
  | 92 => ⟨S1x10000x32, .f32⟩
  | 93 => ⟨S1x10000x32, .f32⟩
  | 94 => ⟨S2x10000x32, .f32⟩
  | 95 => ⟨S1x128, .f32⟩
  | 96 => ⟨S10000x128, .f32⟩
  | _ => ⟨S10000x128, .f32⟩

abbrev hbmTy (i : Nat) : BufTy := match i / 128 with
  | 0 => hbmTy0_0 i
  | 1 => hbmTy0_1 i
  | 2 => hbmTy0_2 i
  | _ => ⟨S10000x128, .f32⟩

abbrev bufTy : (tb : Table) → Fin (tcTables nBuf tb) → BufTy
  | .hbm, ⟨i, _⟩ => hbmTy i
  | .local _ .vmem, ⟨0, _⟩ => ⟨S40000x128, .f32⟩
  | .local _ .vmem, ⟨1, _⟩ => ⟨S16x128, .f32⟩
  | .local _ .vmem, ⟨2, _⟩ => ⟨S128x1, .f32⟩
  | .local _ .vmem, ⟨3, _⟩ => ⟨S40000x8, .f32⟩
  | .local _ .vmem, ⟨4, _⟩ => ⟨S40000x128, .f32⟩
  | .local _ .vmem, ⟨5, _⟩ => ⟨S16x128, .f32⟩
  | .local _ .vmem, ⟨6, _⟩ => ⟨S128x1, .f32⟩
  | .local _ .vmem, ⟨7, _⟩ => ⟨S40000x8, .f32⟩
  | .local _ .vmem, ⟨8, _⟩ => ⟨S40000x128, .f32⟩
  | .local _ .vmem, ⟨9, _⟩ => ⟨S16x128, .f32⟩
  | .local _ .vmem, ⟨10, _⟩ => ⟨S128x1, .f32⟩
  | .local _ .vmem, ⟨11, _⟩ => ⟨S40000x8, .f32⟩
  | .local _ .vmem, ⟨12, _⟩ => ⟨S10000x128, .f32⟩
  | .local _ .vmem, ⟨13, _⟩ => ⟨S128x128, .f32⟩
  | .local _ .vmem, ⟨14, _⟩ => ⟨S128x2, .f32⟩
  | .local _ .vmem, ⟨15, _⟩ => ⟨S10000x128, .f32⟩
  | .local _ .vmem, ⟨16, _⟩ => ⟨S10000x1, .f32⟩
  | .local _ .vmem, ⟨17, _⟩ => ⟨S10000x1, .f32⟩
  | .local _ .vmem, ⟨18, _⟩ => ⟨S2x10000x128, .f32⟩
  | .local _ .vmem, ⟨19, _⟩ => ⟨S2x10000x32, .f32⟩
  | .local _ .vmem, ⟨20, _⟩ => ⟨S16x128, .f32⟩
  | .local _ .vmem, ⟨21, _⟩ => ⟨S1x128, .f32⟩
  | .local _ .vmem, ⟨22, _⟩ => ⟨S10000x128, .f32⟩
  | .local _ .vmem, ⟨23, _⟩ => ⟨S10000x128, .f32⟩
  | .local _ .vmem, ⟨24, _⟩ => ⟨S128x128, .f32⟩
  | .local _ .vmem, ⟨25, _⟩ => ⟨S128x2, .f32⟩
  | .local _ .vmem, ⟨26, _⟩ => ⟨S10000x128, .f32⟩
  | .local _ .vmem, ⟨27, _⟩ => ⟨S10000x1, .f32⟩
  | .local _ .vmem, ⟨28, _⟩ => ⟨S10000x1, .f32⟩
  | .local _ .vmem, ⟨29, _⟩ => ⟨S2x10000x128, .f32⟩
  | .local _ .vmem, ⟨30, _⟩ => ⟨S2x10000x32, .f32⟩
  | .local _ .vmem, ⟨31, _⟩ => ⟨S16x128, .f32⟩
  | .local _ .vmem, ⟨32, _⟩ => ⟨S1x128, .f32⟩
  | .local _ .vmem, ⟨33, _⟩ => ⟨S10000x128, .f32⟩
  | .local _ .vmem, ⟨34, _⟩ => ⟨S10000x128, .f32⟩
  | .local _ .vmem, ⟨35, _⟩ => ⟨S128x128, .f32⟩
  | .local _ .vmem, ⟨36, _⟩ => ⟨S128x2, .f32⟩
  | .local _ .vmem, ⟨37, _⟩ => ⟨S10000x128, .f32⟩
  | .local _ .vmem, ⟨38, _⟩ => ⟨S10000x1, .f32⟩
  | .local _ .vmem, ⟨39, _⟩ => ⟨S10000x1, .f32⟩
  | .local _ .vmem, ⟨40, _⟩ => ⟨S2x10000x128, .f32⟩
  | .local _ .vmem, ⟨41, _⟩ => ⟨S2x10000x32, .f32⟩
  | .local _ .vmem, ⟨42, _⟩ => ⟨S16x128, .f32⟩
  | .local _ .vmem, ⟨43, _⟩ => ⟨S1x128, .f32⟩
  | .local _ .vmem, ⟨44, _⟩ => ⟨S10000x128, .f32⟩
  | .local _ .vmem, ⟨45, _⟩ => ⟨S10000x128, .f32⟩
  | .local _ .vmem, ⟨46, _⟩ => ⟨S128x128, .f32⟩
  | .local _ .vmem, ⟨47, _⟩ => ⟨S128x2, .f32⟩
  | .local _ .vmem, ⟨48, _⟩ => ⟨S10000x128, .f32⟩
  | .local _ .vmem, ⟨49, _⟩ => ⟨S10000x1, .f32⟩
  | .local _ .vmem, ⟨50, _⟩ => ⟨S10000x1, .f32⟩
  | .local _ .vmem, ⟨51, _⟩ => ⟨S2x10000x128, .f32⟩
  | .local _ .vmem, ⟨52, _⟩ => ⟨S2x10000x32, .f32⟩
  | .local _ .vmem, ⟨53, _⟩ => ⟨S16x128, .f32⟩
  | .local _ .vmem, ⟨54, _⟩ => ⟨S1x128, .f32⟩
  | .local _ .vmem, ⟨55, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19_0 : Ref sig .tc := ⟨.hbm, 40, rfl⟩
abbrev main_v19_1 : Ref sig .tc := ⟨.hbm, 41, rfl⟩
abbrev main_v19_2 : Ref sig .tc := ⟨.hbm, 42, rfl⟩
abbrev main_v20 : Ref sig .tc := ⟨.hbm, 43, rfl⟩
abbrev main_v21 : Ref sig .tc := ⟨.hbm, 44, rfl⟩
abbrev main_c : Ref sig .tc := ⟨.hbm, 45, rfl⟩
abbrev main_v22 : Ref sig .tc := ⟨.hbm, 46, rfl⟩
abbrev main_v23 : Ref sig .tc := ⟨.hbm, 47, rfl⟩
abbrev main_c_0 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_c_1 : Ref sig .tc := ⟨.hbm, 54, rfl⟩
abbrev main_v29 : Ref sig .tc := ⟨.hbm, 55, rfl⟩
abbrev main_v30 : Ref sig .tc := ⟨.hbm, 56, rfl⟩
abbrev main_c_2 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst : Ref sig .tc := ⟨.hbm, 65, rfl⟩
abbrev main_v38 : Ref sig .tc := ⟨.hbm, 66, rfl⟩
abbrev main_v39 : Ref sig .tc := ⟨.hbm, 67, rfl⟩
abbrev main_cst_3 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_c_4 : Ref sig .tc := ⟨.hbm, 74, rfl⟩
abbrev main_v45 : Ref sig .tc := ⟨.hbm, 75, rfl⟩
abbrev main_v46 : Ref sig .tc := ⟨.hbm, 76, rfl⟩
abbrev main_c_5 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_6 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_7 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_8 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_9 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_10 : Ref sig .tc := ⟨.hbm, 104, rfl⟩
abbrev main_v69 : Ref sig .tc := ⟨.hbm, 105, rfl⟩
abbrev main_cst_11 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82_0 : Ref sig .tc := ⟨.hbm, 119, rfl⟩
abbrev main_v82_1 : Ref sig .tc := ⟨.hbm, 120, rfl⟩
abbrev main_v82_2 : Ref sig .tc := ⟨.hbm, 121, rfl⟩
abbrev main_v83 : Ref sig .tc := ⟨.hbm, 122, rfl⟩
abbrev main_v84 : Ref sig .tc := ⟨.hbm, 123, rfl⟩
abbrev main_c_12 : Ref sig .tc := ⟨.hbm, 124, rfl⟩
abbrev main_v85 : Ref sig .tc := ⟨.hbm, 125, rfl⟩
abbrev main_v86 : Ref sig .tc := ⟨.hbm, 126, rfl⟩
abbrev main_c_13 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_c_14 : Ref sig .tc := ⟨.hbm, 133, rfl⟩
abbrev main_v92 : Ref sig .tc := ⟨.hbm, 134, rfl⟩
abbrev main_v93 : Ref sig .tc := ⟨.hbm, 135, rfl⟩
abbrev main_c_15 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_cst_16 : Ref sig .tc := ⟨.hbm, 144, rfl⟩
abbrev main_v101 : Ref sig .tc := ⟨.hbm, 145, rfl⟩
abbrev main_v102 : Ref sig .tc := ⟨.hbm, 146, rfl⟩
abbrev main_cst_17 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_c_18 : Ref sig .tc := ⟨.hbm, 153, rfl⟩
abbrev main_v108 : Ref sig .tc := ⟨.hbm, 154, rfl⟩
abbrev main_v109 : Ref sig .tc := ⟨.hbm, 155, rfl⟩
abbrev main_c_19 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_cst_20 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_cst_21 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_cst_22 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_cst_23 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_cst_24 : Ref sig .tc := ⟨.hbm, 183, rfl⟩
abbrev main_v132 : Ref sig .tc := ⟨.hbm, 184, rfl⟩
abbrev main_cst_25 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145_0 : Ref sig .tc := ⟨.hbm, 198, rfl⟩
abbrev main_v145_1 : Ref sig .tc := ⟨.hbm, 199, rfl⟩
abbrev main_v145_2 : Ref sig .tc := ⟨.hbm, 200, rfl⟩
abbrev main_v146 : Ref sig .tc := ⟨.hbm, 201, rfl⟩
abbrev main_v147 : Ref sig .tc := ⟨.hbm, 202, rfl⟩
abbrev main_c_26 : Ref sig .tc := ⟨.hbm, 203, rfl⟩
abbrev main_v148 : Ref sig .tc := ⟨.hbm, 204, rfl⟩
abbrev main_v149 : Ref sig .tc := ⟨.hbm, 205, rfl⟩
abbrev main_c_27 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_c_28 : Ref sig .tc := ⟨.hbm, 212, rfl⟩
abbrev main_v155 : Ref sig .tc := ⟨.hbm, 213, rfl⟩
abbrev main_v156 : Ref sig .tc := ⟨.hbm, 214, rfl⟩
abbrev main_c_29 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_cst_30 : Ref sig .tc := ⟨.hbm, 223, rfl⟩
abbrev main_v164 : Ref sig .tc := ⟨.hbm, 224, rfl⟩
abbrev main_v165 : Ref sig .tc := ⟨.hbm, 225, rfl⟩
abbrev main_cst_31 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_c_32 : Ref sig .tc := ⟨.hbm, 232, rfl⟩
abbrev main_v171 : Ref sig .tc := ⟨.hbm, 233, rfl⟩
abbrev main_v172 : Ref sig .tc := ⟨.hbm, 234, rfl⟩
abbrev main_c_33 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_cst_34 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_cst_35 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_cst_36 : Ref sig .tc := ⟨.hbm, 254, rfl⟩
abbrev main_v189 : Ref sig .tc := ⟨.hbm, 255, rfl⟩
abbrev main_v190 : Ref sig .tc := ⟨.hbm, 256, rfl⟩
abbrev main_v191 : Ref sig .tc := ⟨.hbm, 257, rfl⟩
abbrev main_cst_37 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_cst_38 : Ref sig .tc := ⟨.hbm, 262, rfl⟩
abbrev main_v195 : Ref sig .tc := ⟨.hbm, 263, rfl⟩
abbrev main_cst_39 : Ref sig .tc := ⟨.hbm, 264, rfl⟩
abbrev main_v196 : Ref sig .tc := ⟨.hbm, 265, rfl⟩
abbrev main_v197 : Ref sig .tc := ⟨.hbm, 266, rfl⟩
abbrev main_v198 : Ref sig .tc := ⟨.hbm, 267, rfl⟩
abbrev main_v199 : Ref sig .tc := ⟨.hbm, 268, rfl⟩
abbrev main_v200 : Ref sig .tc := ⟨.hbm, 269, rfl⟩
abbrev main_v201 : Ref sig .tc := ⟨.hbm, 270, rfl⟩
abbrev main_v202 : Ref sig .tc := ⟨.hbm, 271, rfl⟩
abbrev main_v203 : Ref sig .tc := ⟨.hbm, 272, rfl⟩
abbrev main_v204 : Ref sig .tc := ⟨.hbm, 273, rfl⟩
abbrev main_v205 : Ref sig .tc := ⟨.hbm, 274, rfl⟩
abbrev main_v206 : Ref sig .tc := ⟨.hbm, 275, rfl⟩
abbrev main_v207 : Ref sig .tc := ⟨.hbm, 276, rfl⟩
abbrev main_v208_0 : Ref sig .tc := ⟨.hbm, 277, rfl⟩
abbrev main_v208_1 : Ref sig .tc := ⟨.hbm, 278, rfl⟩
abbrev main_v208_2 : Ref sig .tc := ⟨.hbm, 279, rfl⟩
abbrev main_v209 : Ref sig .tc := ⟨.hbm, 280, rfl⟩
abbrev main_v210 : Ref sig .tc := ⟨.hbm, 281, rfl⟩
abbrev main_c_40 : Ref sig .tc := ⟨.hbm, 282, rfl⟩
abbrev main_v211 : Ref sig .tc := ⟨.hbm, 283, rfl⟩
abbrev main_v212 : Ref sig .tc := ⟨.hbm, 284, rfl⟩
abbrev main_c_41 : Ref sig .tc := ⟨.hbm, 285, rfl⟩
abbrev main_v213 : Ref sig .tc := ⟨.hbm, 286, rfl⟩
abbrev main_v214 : Ref sig .tc := ⟨.hbm, 287, rfl⟩
abbrev main_v215 : Ref sig .tc := ⟨.hbm, 288, rfl⟩
abbrev main_v216 : Ref sig .tc := ⟨.hbm, 289, rfl⟩
abbrev main_v217 : Ref sig .tc := ⟨.hbm, 290, rfl⟩
abbrev main_c_42 : Ref sig .tc := ⟨.hbm, 291, rfl⟩
abbrev main_v218 : Ref sig .tc := ⟨.hbm, 292, rfl⟩
abbrev main_v219 : Ref sig .tc := ⟨.hbm, 293, rfl⟩
abbrev main_c_43 : Ref sig .tc := ⟨.hbm, 294, rfl⟩
abbrev main_v220 : Ref sig .tc := ⟨.hbm, 295, rfl⟩
abbrev main_v221 : Ref sig .tc := ⟨.hbm, 296, rfl⟩
abbrev main_v222 : Ref sig .tc := ⟨.hbm, 297, rfl⟩
abbrev main_v223 : Ref sig .tc := ⟨.hbm, 298, rfl⟩
abbrev main_v224 : Ref sig .tc := ⟨.hbm, 299, rfl⟩
abbrev main_v225 : Ref sig .tc := ⟨.hbm, 300, rfl⟩
abbrev main_v226 : Ref sig .tc := ⟨.hbm, 301, rfl⟩
abbrev main_cst_44 : Ref sig .tc := ⟨.hbm, 302, rfl⟩
abbrev main_v227 : Ref sig .tc := ⟨.hbm, 303, rfl⟩
abbrev main_v228 : Ref sig .tc := ⟨.hbm, 304, rfl⟩
abbrev main_cst_45 : Ref sig .tc := ⟨.hbm, 305, rfl⟩
abbrev main_v229 : Ref sig .tc := ⟨.hbm, 306, rfl⟩
abbrev main_v230 : Ref sig .tc := ⟨.hbm, 307, rfl⟩
abbrev main_v231 : Ref sig .tc := ⟨.hbm, 308, rfl⟩
abbrev main_v232 : Ref sig .tc := ⟨.hbm, 309, rfl⟩
abbrev main_v233 : Ref sig .tc := ⟨.hbm, 310, rfl⟩
abbrev main_c_46 : Ref sig .tc := ⟨.hbm, 311, rfl⟩
abbrev main_v234 : Ref sig .tc := ⟨.hbm, 312, rfl⟩
abbrev main_v235 : Ref sig .tc := ⟨.hbm, 313, rfl⟩
abbrev main_c_47 : Ref sig .tc := ⟨.hbm, 314, rfl⟩
abbrev main_v236 : Ref sig .tc := ⟨.hbm, 315, rfl⟩
abbrev main_v237 : Ref sig .tc := ⟨.hbm, 316, rfl⟩
abbrev main_v238 : Ref sig .tc := ⟨.hbm, 317, rfl⟩
abbrev main_v239 : Ref sig .tc := ⟨.hbm, 318, rfl⟩
abbrev main_v240 : Ref sig .tc := ⟨.hbm, 319, rfl⟩
abbrev main_v241 : Ref sig .tc := ⟨.hbm, 320, rfl⟩
abbrev main_v242 : Ref sig .tc := ⟨.hbm, 321, rfl⟩
abbrev main_cst_48 : Ref sig .tc := ⟨.hbm, 322, rfl⟩
abbrev main_v243 : Ref sig .tc := ⟨.hbm, 323, rfl⟩
abbrev main_v244 : Ref sig .tc := ⟨.hbm, 324, rfl⟩
abbrev main_v245 : Ref sig .tc := ⟨.hbm, 325, rfl⟩
abbrev main_v246 : Ref sig .tc := ⟨.hbm, 326, rfl⟩
abbrev main_v247 : Ref sig .tc := ⟨.hbm, 327, rfl⟩
abbrev main_v248 : Ref sig .tc := ⟨.hbm, 328, rfl⟩
abbrev main_cst_49 : Ref sig .tc := ⟨.hbm, 329, rfl⟩
abbrev main_v249 : Ref sig .tc := ⟨.hbm, 330, rfl⟩
abbrev main_v250 : Ref sig .tc := ⟨.hbm, 331, rfl⟩
abbrev main_v251 : Ref sig .tc := ⟨.hbm, 332, rfl⟩
abbrev main_cst_50 : Ref sig .tc := ⟨.hbm, 333, rfl⟩
abbrev main_v252 : Ref sig .tc := ⟨.hbm, 334, rfl⟩
abbrev main_v253 : Ref sig .tc := ⟨.hbm, 335, rfl⟩
abbrev main_v254 : Ref sig .tc := ⟨.hbm, 336, rfl⟩
abbrev main_cst_51 : Ref sig .tc := ⟨.hbm, 337, rfl⟩
abbrev main_v255 : Ref sig .tc := ⟨.hbm, 338, rfl⟩
abbrev main_v256 : Ref sig .tc := ⟨.hbm, 339, rfl⟩
abbrev main_v257 : Ref sig .tc := ⟨.hbm, 340, rfl⟩
abbrev main_cst_52 : Ref sig .tc := ⟨.hbm, 341, rfl⟩
abbrev main_v258 : Ref sig .tc := ⟨.hbm, 342, rfl⟩
abbrev main_cst_53 : Ref sig .tc := ⟨.hbm, 343, rfl⟩
abbrev main_v259 : Ref sig .tc := ⟨.hbm, 344, rfl⟩
abbrev main_v260 : Ref sig .tc := ⟨.hbm, 345, rfl⟩
abbrev main_v261 : Ref sig .tc := ⟨.hbm, 346, rfl⟩
abbrev main_v262 : Ref sig .tc := ⟨.hbm, 347, rfl⟩
abbrev main_v263 : Ref sig .tc := ⟨.hbm, 348, rfl⟩
abbrev main_v264 : Ref sig .tc := ⟨.hbm, 349, rfl⟩
abbrev main_v265 : Ref sig .tc := ⟨.hbm, 350, rfl⟩
abbrev main_v266 : Ref sig .tc := ⟨.hbm, 351, rfl⟩
abbrev main_v267 : Ref sig .tc := ⟨.hbm, 352, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg2_0 : Ref sig .tc := ⟨.vmem, 10, rfl⟩
abbrev cc2_stg3_0 : Ref sig .tc := ⟨.vmem, 11, rfl⟩
abbrev cc3_stg0_0 : Ref sig .tc := ⟨.vmem, 12, rfl⟩
abbrev cc3_stg1_0 : Ref sig .tc := ⟨.vmem, 13, rfl⟩
abbrev cc3_stg2_0 : Ref sig .tc := ⟨.vmem, 14, rfl⟩
abbrev cc3_stg3_0 : Ref sig .tc := ⟨.vmem, 15, rfl⟩
abbrev cc3_stg4_0 : Ref sig .tc := ⟨.vmem, 16, rfl⟩
abbrev cc3_stg5_0 : Ref sig .tc := ⟨.vmem, 17, rfl⟩
abbrev cc4_stg0_0 : Ref sig .tc := ⟨.vmem, 18, rfl⟩
abbrev cc4_stg1_0 : Ref sig .tc := ⟨.vmem, 19, rfl⟩
abbrev cc4_stg2_0 : Ref sig .tc := ⟨.vmem, 20, rfl⟩
abbrev cc4_stg3_0 : Ref sig .tc := ⟨.vmem, 21, rfl⟩
abbrev cc4_stg4_0 : Ref sig .tc := ⟨.vmem, 22, rfl⟩
abbrev cc5_stg0_0 : Ref sig .tc := ⟨.vmem, 23, rfl⟩
abbrev cc5_stg1_0 : Ref sig .tc := ⟨.vmem, 24, rfl⟩
abbrev cc5_stg2_0 : Ref sig .tc := ⟨.vmem, 25, rfl⟩
abbrev cc5_stg3_0 : Ref sig .tc := ⟨.vmem, 26, rfl⟩
abbrev cc5_stg4_0 : Ref sig .tc := ⟨.vmem, 27, rfl⟩
abbrev cc5_stg5_0 : Ref sig .tc := ⟨.vmem, 28, rfl⟩
abbrev cc6_stg0_0 : Ref sig .tc := ⟨.vmem, 29, rfl⟩
abbrev cc6_stg1_0 : Ref sig .tc := ⟨.vmem, 30, rfl⟩
abbrev cc6_stg2_0 : Ref sig .tc := ⟨.vmem, 31, rfl⟩
abbrev cc6_stg3_0 : Ref sig .tc := ⟨.vmem, 32, rfl⟩
abbrev cc6_stg4_0 : Ref sig .tc := ⟨.vmem, 33, rfl⟩
abbrev cc7_stg0_0 : Ref sig .tc := ⟨.vmem, 34, rfl⟩
abbrev cc7_stg1_0 : Ref sig .tc := ⟨.vmem, 35, rfl⟩
abbrev cc7_stg2_0 : Ref sig .tc := ⟨.vmem, 36, rfl⟩
abbrev cc7_stg3_0 : Ref sig .tc := ⟨.vmem, 37, rfl⟩
abbrev cc7_stg4_0 : Ref sig .tc := ⟨.vmem, 38, rfl⟩
abbrev cc7_stg5_0 : Ref sig .tc := ⟨.vmem, 39, rfl⟩
abbrev cc8_stg0_0 : Ref sig .tc := ⟨.vmem, 40, rfl⟩
abbrev cc8_stg1_0 : Ref sig .tc := ⟨.vmem, 41, rfl⟩
abbrev cc8_stg2_0 : Ref sig .tc := ⟨.vmem, 42, rfl⟩
abbrev cc8_stg3_0 : Ref sig .tc := ⟨.vmem, 43, rfl⟩
abbrev cc8_stg4_0 : Ref sig .tc := ⟨.vmem, 44, rfl⟩
abbrev cc9_stg0_0 : Ref sig .tc := ⟨.vmem, 45, rfl⟩
abbrev cc9_stg1_0 : Ref sig .tc := ⟨.vmem, 46, rfl⟩
abbrev cc9_stg2_0 : Ref sig .tc := ⟨.vmem, 47, rfl⟩
abbrev cc9_stg3_0 : Ref sig .tc := ⟨.vmem, 48, rfl⟩
abbrev cc9_stg4_0 : Ref sig .tc := ⟨.vmem, 49, rfl⟩
abbrev cc9_stg5_0 : Ref sig .tc := ⟨.vmem, 50, rfl⟩
abbrev cc10_stg0_0 : Ref sig .tc := ⟨.vmem, 51, rfl⟩
abbrev cc10_stg1_0 : Ref sig .tc := ⟨.vmem, 52, rfl⟩
abbrev cc10_stg2_0 : Ref sig .tc := ⟨.vmem, 53, rfl⟩
abbrev cc10_stg3_0 : Ref sig .tc := ⟨.vmem, 54, rfl⟩
abbrev cc10_stg4_0 : Ref sig .tc := ⟨.vmem, 55, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc2_sem0_0 : DmaSem sig := 8
abbrev cc2_sem1_0 : DmaSem sig := 9
abbrev cc2_sem2_0 : DmaSem sig := 10
abbrev cc2_sem3_0 : DmaSem sig := 11
abbrev cc3_sem0_0 : DmaSem sig := 12
abbrev cc3_sem1_0 : DmaSem sig := 13
abbrev cc3_sem2_0 : DmaSem sig := 14
abbrev cc3_sem3_0 : DmaSem sig := 15
abbrev cc3_sem4_0 : DmaSem sig := 16
abbrev cc3_sem5_0 : DmaSem sig := 17
abbrev cc4_sem0_0 : DmaSem sig := 18
abbrev cc4_sem1_0 : DmaSem sig := 19
abbrev cc4_sem2_0 : DmaSem sig := 20
abbrev cc4_sem3_0 : DmaSem sig := 21
abbrev cc4_sem4_0 : DmaSem sig := 22
abbrev cc5_sem0_0 : DmaSem sig := 23
abbrev cc5_sem1_0 : DmaSem sig := 24
abbrev cc5_sem2_0 : DmaSem sig := 25
abbrev cc5_sem3_0 : DmaSem sig := 26
abbrev cc5_sem4_0 : DmaSem sig := 27
abbrev cc5_sem5_0 : DmaSem sig := 28
abbrev cc6_sem0_0 : DmaSem sig := 29
abbrev cc6_sem1_0 : DmaSem sig := 30
abbrev cc6_sem2_0 : DmaSem sig := 31
abbrev cc6_sem3_0 : DmaSem sig := 32
abbrev cc6_sem4_0 : DmaSem sig := 33
abbrev cc7_sem0_0 : DmaSem sig := 34
abbrev cc7_sem1_0 : DmaSem sig := 35
abbrev cc7_sem2_0 : DmaSem sig := 36
abbrev cc7_sem3_0 : DmaSem sig := 37
abbrev cc7_sem4_0 : DmaSem sig := 38
abbrev cc7_sem5_0 : DmaSem sig := 39
abbrev cc8_sem0_0 : DmaSem sig := 40
abbrev cc8_sem1_0 : DmaSem sig := 41
abbrev cc8_sem2_0 : DmaSem sig := 42
abbrev cc8_sem3_0 : DmaSem sig := 43
abbrev cc8_sem4_0 : DmaSem sig := 44
abbrev cc9_sem0_0 : DmaSem sig := 45
abbrev cc9_sem1_0 : DmaSem sig := 46
abbrev cc9_sem2_0 : DmaSem sig := 47
abbrev cc9_sem3_0 : DmaSem sig := 48
abbrev cc9_sem4_0 : DmaSem sig := 49
abbrev cc9_sem5_0 : DmaSem sig := 50
abbrev cc10_sem0_0 : DmaSem sig := 51
abbrev cc10_sem1_0 : DmaSem sig := 52
abbrev cc10_sem2_0 : DmaSem sig := 53
abbrev cc10_sem3_0 : DmaSem sig := 54
abbrev cc10_sem4_0 : DmaSem sig := 55

abbrev nD : Nat := 1
abbrev τ : Topo := Topo.v7x

variable {F : FTy → Type} [FloatOps F]

abbrev grid0 : Pipeline.Grid := .none

abbrev stage0_0 : Fin 1 → Memref sig .tc .vmem S40000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S40000x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := .none

abbrev stage1_0 : Fin 1 → Memref sig .tc .vmem S40000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S16x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S128x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S40000x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev grid2 : Pipeline.Grid := .none

abbrev stage2_0 : Fin 1 → Memref sig .tc .vmem S40000x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S16x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S128x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S40000x8 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev grid3 : Pipeline.Grid := .none

abbrev stage3_0 : Fin 1 → Memref sig .tc .vmem S10000x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S128x2 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S10000x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S10000x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev stage3_5 : Fin 1 → Memref sig .tc .vmem S10000x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))

abbrev grid4 : Pipeline.Grid := .none

abbrev stage4_0 : Fin 1 → Memref sig .tc .vmem S2x10000x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S2x10000x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S16x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))

abbrev stage4_4 : Fin 1 → Memref sig .tc .vmem S10000x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))

abbrev grid5 : Pipeline.Grid := .none

abbrev stage5_0 : Fin 1 → Memref sig .tc .vmem S10000x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))

abbrev stage5_2 : Fin 1 → Memref sig .tc .vmem S128x2 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))

abbrev stage5_3 : Fin 1 → Memref sig .tc .vmem S10000x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))

abbrev stage5_4 : Fin 1 → Memref sig .tc .vmem S10000x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))

abbrev stage5_5 : Fin 1 → Memref sig .tc .vmem S10000x1 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))

abbrev grid6 : Pipeline.Grid := .none

abbrev stage6_0 : Fin 1 → Memref sig .tc .vmem S2x10000x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))

abbrev stage6_1 : Fin 1 → Memref sig .tc .vmem S2x10000x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))

abbrev stage6_2 : Fin 1 → Memref sig .tc .vmem S16x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))

abbrev stage6_4 : Fin 1 → Memref sig .tc .vmem S10000x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))

abbrev grid7 : Pipeline.Grid := .none

abbrev stage7_0 : Fin 1 → Memref sig .tc .vmem S10000x128 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))

abbrev stage7_2 : Fin 1 → Memref sig .tc .vmem S128x2 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))

abbrev stage7_3 : Fin 1 → Memref sig .tc .vmem S10000x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))

abbrev stage7_4 : Fin 1 → Memref sig .tc .vmem S10000x1 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))

abbrev stage7_5 : Fin 1 → Memref sig .tc .vmem S10000x1 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))

abbrev grid8 : Pipeline.Grid := .none

abbrev stage8_0 : Fin 1 → Memref sig .tc .vmem S2x10000x128 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))

abbrev stage8_1 : Fin 1 → Memref sig .tc .vmem S2x10000x32 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))

abbrev stage8_2 : Fin 1 → Memref sig .tc .vmem S16x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))

abbrev stage8_4 : Fin 1 → Memref sig .tc .vmem S10000x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))

abbrev grid9 : Pipeline.Grid := .none

abbrev stage9_0 : Fin 1 → Memref sig .tc .vmem S10000x128 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))

abbrev stage9_1 : Fin 1 → Memref sig .tc .vmem S128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))

abbrev stage9_2 : Fin 1 → Memref sig .tc .vmem S128x2 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))

abbrev stage9_3 : Fin 1 → Memref sig .tc .vmem S10000x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))

abbrev stage9_4 : Fin 1 → Memref sig .tc .vmem S10000x1 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))

abbrev stage9_5 : Fin 1 → Memref sig .tc .vmem S10000x1 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))

abbrev grid10 : Pipeline.Grid := .none

abbrev stage10_0 : Fin 1 → Memref sig .tc .vmem S2x10000x128 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))

abbrev stage10_1 : Fin 1 → Memref sig .tc .vmem S2x10000x32 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))

abbrev stage10_2 : Fin 1 → Memref sig .tc .vmem S16x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))

abbrev stage10_4 : Fin 1 → Memref sig .tc .vmem S10000x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
-- ==== ReferenceIdeal.lean ====
abbrev S10000x128 : Shape := ⟨2, ![10000, 128]⟩
abbrev S2x320000 : Shape := ⟨2, ![2, 320000]⟩
abbrev S320000x16 : Shape := ⟨2, ![320000, 16]⟩
abbrev S128x128 : Shape := ⟨2, ![128, 128]⟩
abbrev S16x128 : Shape := ⟨2, ![16, 128]⟩
abbrev S128 : Shape := ⟨1, ![128]⟩
abbrev S1x320000 : Shape := ⟨2, ![1, 320000]⟩
abbrev S320000 : Shape := ⟨1, ![320000]⟩
abbrev S320000x128 : Shape := ⟨2, ![320000, 128]⟩
abbrev S1x128 : Shape := ⟨2, ![1, 128]⟩
abbrev S_ : Shape := ⟨0, ![]⟩
abbrev S10000 : Shape := ⟨1, ![10000]⟩
abbrev S320000x1 : Shape := ⟨2, ![320000, 1]⟩
abbrev S1x10000 : Shape := ⟨2, ![1, 10000]⟩
abbrev S320000x10000 : Shape := ⟨2, ![320000, 10000]⟩

abbrev nBuf : Space → Nat
  | .hbm => 484
  | .vmem => 0
  | .smem => 0
  | _ => 0

abbrev hbmTy0_0 (i : Nat) : BufTy := match i % 128 with
  | 0 => ⟨S10000x128, .f32⟩
  | 1 => ⟨S2x320000, .i32⟩
  | 2 => ⟨S320000x16, .f32⟩
  | 3 => ⟨S128x128, .f32⟩
  | 4 => ⟨S16x128, .f32⟩
  | 5 => ⟨S128, .f32⟩
  | 6 => ⟨S128, .f32⟩
  | 7 => ⟨S128, .f32⟩
  | 8 => ⟨S128, .f32⟩
  | 9 => ⟨S128x128, .f32⟩
  | 10 => ⟨S16x128, .f32⟩
  | 11 => ⟨S128, .f32⟩
  | 12 => ⟨S128, .f32⟩
  | 13 => ⟨S128, .f32⟩
  | 14 => ⟨S128, .f32⟩
  | 15 => ⟨S128x128, .f32⟩
  | 16 => ⟨S16x128, .f32⟩
  | 17 => ⟨S128, .f32⟩
  | 18 => ⟨S128, .f32⟩
  | 19 => ⟨S128, .f32⟩
  | 20 => ⟨S128, .f32⟩
  | 21 => ⟨S1x320000, .i32⟩
  | 22 => ⟨S320000, .i32⟩
  | 23 => ⟨S1x320000, .i32⟩
  | 24 => ⟨S320000, .i32⟩
  | 25 => ⟨S10000x128, .f32⟩
  | 26 => ⟨S320000x128, .f32⟩
  | 27 => ⟨S1x128, .f32⟩
  | 28 => ⟨S10000x128, .f32⟩
  | 29 => ⟨S10000x128, .f32⟩
  | 30 => ⟨S_, .f32⟩
  | 31 => ⟨S10000, .f32⟩
  | 32 => ⟨S1x128, .f32⟩
  | 33 => ⟨S10000x128, .f32⟩
  | 34 => ⟨S10000x128, .f32⟩
  | 35 => ⟨S_, .f32⟩
  | 36 => ⟨S10000, .f32⟩
  | 37 => ⟨S1x128, .f32⟩
  | 38 => ⟨S320000x128, .f32⟩
  | 39 => ⟨S320000x128, .f32⟩
  | 40 => ⟨S_, .f32⟩
  | 41 => ⟨S320000, .f32⟩
  | 42 => ⟨S_, .i32⟩
  | 43 => ⟨S320000, .i32⟩
  | 44 => ⟨S320000, .i1⟩
  | 45 => ⟨S_, .i32⟩
  | 46 => ⟨S320000, .i32⟩
  | 47 => ⟨S320000, .i32⟩
  | 48 => ⟨S320000, .i32⟩
  | 49 => ⟨S320000x1, .i32⟩
  | 50 => ⟨S320000, .f32⟩
  | 51 => ⟨S_, .i32⟩
  | 52 => ⟨S320000, .i32⟩
  | 53 => ⟨S320000, .i1⟩
  | 54 => ⟨S_, .i32⟩
  | 55 => ⟨S320000, .i32⟩
  | 56 => ⟨S320000, .i32⟩
  | 57 => ⟨S320000, .i32⟩
  | 58 => ⟨S320000x1, .i32⟩
  | 59 => ⟨S320000, .f32⟩
  | 60 => ⟨S320000, .f32⟩
  | 61 => ⟨S320000, .f32⟩
  | 62 => ⟨S_, .f32⟩
  | 63 => ⟨S320000, .f32⟩
  | 64 => ⟨S320000, .i1⟩
  | 65 => ⟨S_, .f32⟩
  | 66 => ⟨S320000, .f32⟩
  | 67 => ⟨S320000, .f32⟩
  | 68 => ⟨S320000, .f32⟩
  | 69 => ⟨S320000x1, .i32⟩
  | 70 => ⟨S10000, .i32⟩
  | 71 => ⟨S1x10000, .i32⟩
  | 72 => ⟨S320000x10000, .i32⟩
  | 73 => ⟨S320000x10000, .i32⟩
  | 74 => ⟨S320000x10000, .i1⟩
  | 75 => ⟨S320000x1, .f32⟩
  | 76 => ⟨S_, .f32⟩
  | 77 => ⟨S_, .f32⟩
  | 78 => ⟨S320000x10000, .f32⟩
  | 79 => ⟨S320000x10000, .f32⟩
  | 80 => ⟨S320000x10000, .f32⟩
  | 81 => ⟨S_, .f32⟩
  | 82 => ⟨S10000, .f32⟩
  | 83 => ⟨S10000, .f32⟩
  | 84 => ⟨S_, .f32⟩
  | 85 => ⟨S10000, .f32⟩
  | 86 => ⟨S10000, .i1⟩
  | 87 => ⟨S_, .f32⟩
  | 88 => ⟨S_, .f32⟩
  | 89 => ⟨S10000, .f32⟩
  | 90 => ⟨S10000, .f32⟩
  | 91 => ⟨S_, .i32⟩
  | 92 => ⟨S320000, .i32⟩
  | 93 => ⟨S320000, .i1⟩
  | 94 => ⟨S_, .i32⟩
  | 95 => ⟨S320000, .i32⟩
  | 96 => ⟨S320000, .i32⟩
  | 97 => ⟨S320000, .i32⟩
  | 98 => ⟨S320000x1, .i32⟩
  | 99 => ⟨S320000, .f32⟩
  | 100 => ⟨S320000, .f32⟩
  | 101 => ⟨S320000, .f32⟩
  | 102 => ⟨S_, .f32⟩
  | 103 => ⟨S10000, .f32⟩
  | 104 => ⟨S320000x1, .i32⟩
  | 105 => ⟨S10000, .f32⟩
  | 106 => ⟨S_, .i32⟩
  | 107 => ⟨S320000, .i32⟩
  | 108 => ⟨S320000, .i1⟩
  | 109 => ⟨S_, .i32⟩
  | 110 => ⟨S320000, .i32⟩
  | 111 => ⟨S320000, .i32⟩
  | 112 => ⟨S320000, .i32⟩
  | 113 => ⟨S320000x1, .i32⟩
  | 114 => ⟨S320000, .f32⟩
  | 115 => ⟨S_, .f32⟩
  | 116 => ⟨S320000, .f32⟩
  | 117 => ⟨S320000, .f32⟩
  | 118 => ⟨S320000, .f32⟩
  | 119 => ⟨S_, .i32⟩
  | 120 => ⟨S320000, .i32⟩
  | 121 => ⟨S320000, .i1⟩
  | 122 => ⟨S_, .i32⟩
  | 123 => ⟨S320000, .i32⟩
  | 124 => ⟨S320000, .i32⟩
  | 125 => ⟨S320000, .i32⟩
  | 126 => ⟨S320000x1, .i32⟩
  | 127 => ⟨S320000x128, .f32⟩
  | _ => ⟨S10000x128, .f32⟩

abbrev hbmTy0_1 (i : Nat) : BufTy := match i % 128 with
  | 0 => ⟨S320000x128, .f32⟩
  | 1 => ⟨S320000x1, .f32⟩
  | 2 => ⟨S320000x128, .f32⟩
  | 3 => ⟨S320000x128, .f32⟩
  | 4 => ⟨S_, .f32⟩
  | 5 => ⟨S10000x128, .f32⟩
  | 6 => ⟨S320000x1, .i32⟩
  | 7 => ⟨S10000x128, .f32⟩
  | 8 => ⟨S1x128, .f32⟩
  | 9 => ⟨S10000x128, .f32⟩
  | 10 => ⟨S10000x128, .f32⟩
  | 11 => ⟨S10000x128, .f32⟩
  | 12 => ⟨S10000x128, .f32⟩
  | 13 => ⟨S320000x128, .f32⟩
  | 14 => ⟨S1x128, .f32⟩
  | 15 => ⟨S10000x128, .f32⟩
  | 16 => ⟨S10000x128, .f32⟩
  | 17 => ⟨S_, .f32⟩
  | 18 => ⟨S10000, .f32⟩
  | 19 => ⟨S1x128, .f32⟩
  | 20 => ⟨S10000x128, .f32⟩
  | 21 => ⟨S10000x128, .f32⟩
  | 22 => ⟨S_, .f32⟩
  | 23 => ⟨S10000, .f32⟩
  | 24 => ⟨S1x128, .f32⟩
  | 25 => ⟨S320000x128, .f32⟩
  | 26 => ⟨S320000x128, .f32⟩
  | 27 => ⟨S_, .f32⟩
  | 28 => ⟨S320000, .f32⟩
  | 29 => ⟨S_, .i32⟩
  | 30 => ⟨S320000, .i32⟩
  | 31 => ⟨S320000, .i1⟩
  | 32 => ⟨S_, .i32⟩
  | 33 => ⟨S320000, .i32⟩
  | 34 => ⟨S320000, .i32⟩
  | 35 => ⟨S320000, .i32⟩
  | 36 => ⟨S320000x1, .i32⟩
  | 37 => ⟨S320000, .f32⟩
  | 38 => ⟨S_, .i32⟩
  | 39 => ⟨S320000, .i32⟩
  | 40 => ⟨S320000, .i1⟩
  | 41 => ⟨S_, .i32⟩
  | 42 => ⟨S320000, .i32⟩
  | 43 => ⟨S320000, .i32⟩
  | 44 => ⟨S320000, .i32⟩
  | 45 => ⟨S320000x1, .i32⟩
  | 46 => ⟨S320000, .f32⟩
  | 47 => ⟨S320000, .f32⟩
  | 48 => ⟨S320000, .f32⟩
  | 49 => ⟨S_, .f32⟩
  | 50 => ⟨S320000, .f32⟩
  | 51 => ⟨S320000, .i1⟩
  | 52 => ⟨S_, .f32⟩
  | 53 => ⟨S320000, .f32⟩
  | 54 => ⟨S320000, .f32⟩
  | 55 => ⟨S320000, .f32⟩
  | 56 => ⟨S320000x1, .i32⟩
  | 57 => ⟨S10000, .i32⟩
  | 58 => ⟨S1x10000, .i32⟩
  | 59 => ⟨S320000x10000, .i32⟩
  | 60 => ⟨S320000x10000, .i32⟩
  | 61 => ⟨S320000x10000, .i1⟩
  | 62 => ⟨S320000x1, .f32⟩
  | 63 => ⟨S_, .f32⟩
  | 64 => ⟨S_, .f32⟩
  | 65 => ⟨S320000x10000, .f32⟩
  | 66 => ⟨S320000x10000, .f32⟩
  | 67 => ⟨S320000x10000, .f32⟩
  | 68 => ⟨S_, .f32⟩
  | 69 => ⟨S10000, .f32⟩
  | 70 => ⟨S10000, .f32⟩
  | 71 => ⟨S_, .f32⟩
  | 72 => ⟨S10000, .f32⟩
  | 73 => ⟨S10000, .i1⟩
  | 74 => ⟨S_, .f32⟩
  | 75 => ⟨S_, .f32⟩
  | 76 => ⟨S10000, .f32⟩
  | 77 => ⟨S10000, .f32⟩
  | 78 => ⟨S_, .i32⟩
  | 79 => ⟨S320000, .i32⟩
  | 80 => ⟨S320000, .i1⟩
  | 81 => ⟨S_, .i32⟩
  | 82 => ⟨S320000, .i32⟩
  | 83 => ⟨S320000, .i32⟩
  | 84 => ⟨S320000, .i32⟩
  | 85 => ⟨S320000x1, .i32⟩
  | 86 => ⟨S320000, .f32⟩
  | 87 => ⟨S320000, .f32⟩
  | 88 => ⟨S320000, .f32⟩
  | 89 => ⟨S_, .f32⟩
  | 90 => ⟨S10000, .f32⟩
  | 91 => ⟨S320000x1, .i32⟩
  | 92 => ⟨S10000, .f32⟩
  | 93 => ⟨S_, .i32⟩
  | 94 => ⟨S320000, .i32⟩
  | 95 => ⟨S320000, .i1⟩
  | 96 => ⟨S_, .i32⟩
  | 97 => ⟨S320000, .i32⟩
  | 98 => ⟨S320000, .i32⟩
  | 99 => ⟨S320000, .i32⟩
  | 100 => ⟨S320000x1, .i32⟩
  | 101 => ⟨S320000, .f32⟩
  | 102 => ⟨S_, .f32⟩
  | 103 => ⟨S320000, .f32⟩
  | 104 => ⟨S320000, .f32⟩
  | 105 => ⟨S320000, .f32⟩
  | 106 => ⟨S_, .i32⟩
  | 107 => ⟨S320000, .i32⟩
  | 108 => ⟨S320000, .i1⟩
  | 109 => ⟨S_, .i32⟩
  | 110 => ⟨S320000, .i32⟩
  | 111 => ⟨S320000, .i32⟩
  | 112 => ⟨S320000, .i32⟩
  | 113 => ⟨S320000x1, .i32⟩
  | 114 => ⟨S320000x128, .f32⟩
  | 115 => ⟨S320000x128, .f32⟩
  | 116 => ⟨S320000x1, .f32⟩
  | 117 => ⟨S320000x128, .f32⟩
  | 118 => ⟨S320000x128, .f32⟩
  | 119 => ⟨S_, .f32⟩
  | 120 => ⟨S10000x128, .f32⟩
  | 121 => ⟨S320000x1, .i32⟩
  | 122 => ⟨S10000x128, .f32⟩
  | 123 => ⟨S1x128, .f32⟩
  | 124 => ⟨S10000x128, .f32⟩
  | 125 => ⟨S10000x128, .f32⟩
  | 126 => ⟨S10000x128, .f32⟩
  | 127 => ⟨S10000x128, .f32⟩
  | _ => ⟨S10000x128, .f32⟩

abbrev hbmTy0_2 (i : Nat) : BufTy := match i % 128 with
  | 0 => ⟨S320000x128, .f32⟩
  | 1 => ⟨S1x128, .f32⟩
  | 2 => ⟨S10000x128, .f32⟩
  | 3 => ⟨S10000x128, .f32⟩
  | 4 => ⟨S_, .f32⟩
  | 5 => ⟨S10000, .f32⟩
  | 6 => ⟨S1x128, .f32⟩
  | 7 => ⟨S10000x128, .f32⟩
  | 8 => ⟨S10000x128, .f32⟩
  | 9 => ⟨S_, .f32⟩
  | 10 => ⟨S10000, .f32⟩
  | 11 => ⟨S1x128, .f32⟩
  | 12 => ⟨S320000x128, .f32⟩
  | 13 => ⟨S320000x128, .f32⟩
  | 14 => ⟨S_, .f32⟩
  | 15 => ⟨S320000, .f32⟩
  | 16 => ⟨S_, .i32⟩
  | 17 => ⟨S320000, .i32⟩
  | 18 => ⟨S320000, .i1⟩
  | 19 => ⟨S_, .i32⟩
  | 20 => ⟨S320000, .i32⟩
  | 21 => ⟨S320000, .i32⟩
  | 22 => ⟨S320000, .i32⟩
  | 23 => ⟨S320000x1, .i32⟩
  | 24 => ⟨S320000, .f32⟩
  | 25 => ⟨S_, .i32⟩
  | 26 => ⟨S320000, .i32⟩
  | 27 => ⟨S320000, .i1⟩
  | 28 => ⟨S_, .i32⟩
  | 29 => ⟨S320000, .i32⟩
  | 30 => ⟨S320000, .i32⟩
  | 31 => ⟨S320000, .i32⟩
  | 32 => ⟨S320000x1, .i32⟩
  | 33 => ⟨S320000, .f32⟩
  | 34 => ⟨S320000, .f32⟩
  | 35 => ⟨S320000, .f32⟩
  | 36 => ⟨S_, .f32⟩
  | 37 => ⟨S320000, .f32⟩
  | 38 => ⟨S320000, .i1⟩
  | 39 => ⟨S_, .f32⟩
  | 40 => ⟨S320000, .f32⟩
  | 41 => ⟨S320000, .f32⟩
  | 42 => ⟨S320000, .f32⟩
  | 43 => ⟨S320000x1, .i32⟩
  | 44 => ⟨S10000, .i32⟩
  | 45 => ⟨S1x10000, .i32⟩
  | 46 => ⟨S320000x10000, .i32⟩
  | 47 => ⟨S320000x10000, .i32⟩
  | 48 => ⟨S320000x10000, .i1⟩
  | 49 => ⟨S320000x1, .f32⟩
  | 50 => ⟨S_, .f32⟩
  | 51 => ⟨S_, .f32⟩
  | 52 => ⟨S320000x10000, .f32⟩
  | 53 => ⟨S320000x10000, .f32⟩
  | 54 => ⟨S320000x10000, .f32⟩
  | 55 => ⟨S_, .f32⟩
  | 56 => ⟨S10000, .f32⟩
  | 57 => ⟨S10000, .f32⟩
  | 58 => ⟨S_, .f32⟩
  | 59 => ⟨S10000, .f32⟩
  | 60 => ⟨S10000, .i1⟩
  | 61 => ⟨S_, .f32⟩
  | 62 => ⟨S_, .f32⟩
  | 63 => ⟨S10000, .f32⟩
  | 64 => ⟨S10000, .f32⟩
  | 65 => ⟨S_, .i32⟩
  | 66 => ⟨S320000, .i32⟩
  | 67 => ⟨S320000, .i1⟩
  | 68 => ⟨S_, .i32⟩
  | 69 => ⟨S320000, .i32⟩
  | 70 => ⟨S320000, .i32⟩
  | 71 => ⟨S320000, .i32⟩
  | 72 => ⟨S320000x1, .i32⟩
  | 73 => ⟨S320000, .f32⟩
  | 74 => ⟨S320000, .f32⟩
  | 75 => ⟨S320000, .f32⟩
  | 76 => ⟨S_, .f32⟩
  | 77 => ⟨S10000, .f32⟩
  | 78 => ⟨S320000x1, .i32⟩
  | 79 => ⟨S10000, .f32⟩
  | 80 => ⟨S_, .i32⟩
  | 81 => ⟨S320000, .i32⟩
  | 82 => ⟨S320000, .i1⟩
  | 83 => ⟨S_, .i32⟩
  | 84 => ⟨S320000, .i32⟩
  | 85 => ⟨S320000, .i32⟩
  | 86 => ⟨S320000, .i32⟩
  | 87 => ⟨S320000x1, .i32⟩
  | 88 => ⟨S320000, .f32⟩
  | 89 => ⟨S_, .f32⟩
  | 90 => ⟨S320000, .f32⟩
  | 91 => ⟨S320000, .f32⟩
  | 92 => ⟨S320000, .f32⟩
  | 93 => ⟨S_, .i32⟩
  | 94 => ⟨S320000, .i32⟩
  | 95 => ⟨S320000, .i1⟩
  | 96 => ⟨S_, .i32⟩
  | 97 => ⟨S320000, .i32⟩
  | 98 => ⟨S320000, .i32⟩
  | 99 => ⟨S320000, .i32⟩
  | 100 => ⟨S320000x1, .i32⟩
  | 101 => ⟨S320000x128, .f32⟩
  | 102 => ⟨S320000x128, .f32⟩
  | 103 => ⟨S320000x1, .f32⟩
  | 104 => ⟨S320000x128, .f32⟩
  | 105 => ⟨S320000x128, .f32⟩
  | 106 => ⟨S_, .f32⟩
  | 107 => ⟨S10000x128, .f32⟩
  | 108 => ⟨S320000x1, .i32⟩
  | 109 => ⟨S10000x128, .f32⟩
  | 110 => ⟨S1x128, .f32⟩
  | 111 => ⟨S10000x128, .f32⟩
  | 112 => ⟨S10000x128, .f32⟩
  | 113 => ⟨S10000x128, .f32⟩
  | 114 => ⟨S10000x128, .f32⟩
  | 115 => ⟨S320000x128, .f32⟩
  | 116 => ⟨S1x128, .f32⟩
  | 117 => ⟨S10000x128, .f32⟩
  | 118 => ⟨S10000x128, .f32⟩
  | 119 => ⟨S_, .f32⟩
  | 120 => ⟨S10000, .f32⟩
  | 121 => ⟨S1x128, .f32⟩
  | 122 => ⟨S10000x128, .f32⟩
  | 123 => ⟨S10000x128, .f32⟩
  | 124 => ⟨S_, .f32⟩
  | 125 => ⟨S10000, .f32⟩
  | 126 => ⟨S1x128, .f32⟩
  | 127 => ⟨S320000x128, .f32⟩
  | _ => ⟨S10000x128, .f32⟩

abbrev hbmTy0_3 (i : Nat) : BufTy := match i % 128 with
  | 0 => ⟨S320000x128, .f32⟩
  | 1 => ⟨S_, .f32⟩
  | 2 => ⟨S320000, .f32⟩
  | 3 => ⟨S_, .i32⟩
  | 4 => ⟨S320000, .i32⟩
  | 5 => ⟨S320000, .i1⟩
  | 6 => ⟨S_, .i32⟩
  | 7 => ⟨S320000, .i32⟩
  | 8 => ⟨S320000, .i32⟩
  | 9 => ⟨S320000, .i32⟩
  | 10 => ⟨S320000x1, .i32⟩
  | 11 => ⟨S320000, .f32⟩
  | 12 => ⟨S_, .i32⟩
  | 13 => ⟨S320000, .i32⟩
  | 14 => ⟨S320000, .i1⟩
  | 15 => ⟨S_, .i32⟩
  | 16 => ⟨S320000, .i32⟩
  | 17 => ⟨S320000, .i32⟩
  | 18 => ⟨S320000, .i32⟩
  | 19 => ⟨S320000x1, .i32⟩
  | 20 => ⟨S320000, .f32⟩
  | 21 => ⟨S320000, .f32⟩
  | 22 => ⟨S320000, .f32⟩
  | 23 => ⟨S_, .f32⟩
  | 24 => ⟨S320000, .f32⟩
  | 25 => ⟨S320000, .i1⟩
  | 26 => ⟨S_, .f32⟩
  | 27 => ⟨S320000, .f32⟩
  | 28 => ⟨S320000, .f32⟩
  | 29 => ⟨S320000, .f32⟩
  | 30 => ⟨S320000x1, .i32⟩
  | 31 => ⟨S10000, .i32⟩
  | 32 => ⟨S1x10000, .i32⟩
  | 33 => ⟨S320000x10000, .i32⟩
  | 34 => ⟨S320000x10000, .i32⟩
  | 35 => ⟨S320000x10000, .i1⟩
  | 36 => ⟨S320000x1, .f32⟩
  | 37 => ⟨S_, .f32⟩
  | 38 => ⟨S_, .f32⟩
  | 39 => ⟨S320000x10000, .f32⟩
  | 40 => ⟨S320000x10000, .f32⟩
  | 41 => ⟨S320000x10000, .f32⟩
  | 42 => ⟨S_, .f32⟩
  | 43 => ⟨S10000, .f32⟩
  | 44 => ⟨S10000, .f32⟩
  | 45 => ⟨S_, .f32⟩
  | 46 => ⟨S10000, .f32⟩
  | 47 => ⟨S10000, .i1⟩
  | 48 => ⟨S_, .f32⟩
  | 49 => ⟨S_, .f32⟩
  | 50 => ⟨S10000, .f32⟩
  | 51 => ⟨S10000, .f32⟩
  | 52 => ⟨S_, .i32⟩
  | 53 => ⟨S320000, .i32⟩
  | 54 => ⟨S320000, .i1⟩
  | 55 => ⟨S_, .i32⟩
  | 56 => ⟨S320000, .i32⟩
  | 57 => ⟨S320000, .i32⟩
  | 58 => ⟨S320000, .i32⟩
  | 59 => ⟨S320000x1, .i32⟩
  | 60 => ⟨S320000, .f32⟩
  | 61 => ⟨S320000, .f32⟩
  | 62 => ⟨S320000, .f32⟩
  | 63 => ⟨S_, .f32⟩
  | 64 => ⟨S10000, .f32⟩
  | 65 => ⟨S320000x1, .i32⟩
  | 66 => ⟨S10000, .f32⟩
  | 67 => ⟨S_, .i32⟩
  | 68 => ⟨S320000, .i32⟩
  | 69 => ⟨S320000, .i1⟩
  | 70 => ⟨S_, .i32⟩
  | 71 => ⟨S320000, .i32⟩
  | 72 => ⟨S320000, .i32⟩
  | 73 => ⟨S320000, .i32⟩
  | 74 => ⟨S320000x1, .i32⟩
  | 75 => ⟨S320000, .f32⟩
  | 76 => ⟨S_, .f32⟩
  | 77 => ⟨S320000, .f32⟩
  | 78 => ⟨S320000, .f32⟩
  | 79 => ⟨S320000, .f32⟩
  | 80 => ⟨S_, .i32⟩
  | 81 => ⟨S320000, .i32⟩
  | 82 => ⟨S320000, .i1⟩
  | 83 => ⟨S_, .i32⟩
  | 84 => ⟨S320000, .i32⟩
  | 85 => ⟨S320000, .i32⟩
  | 86 => ⟨S320000, .i32⟩
  | 87 => ⟨S320000x1, .i32⟩
  | 88 => ⟨S320000x128, .f32⟩
  | 89 => ⟨S320000x128, .f32⟩
  | 90 => ⟨S320000x1, .f32⟩
  | 91 => ⟨S320000x128, .f32⟩
  | 92 => ⟨S320000x128, .f32⟩
  | 93 => ⟨S_, .f32⟩
  | 94 => ⟨S10000x128, .f32⟩
  | 95 => ⟨S320000x1, .i32⟩
  | 96 => ⟨S10000x128, .f32⟩
  | 97 => ⟨S1x128, .f32⟩
  | 98 => ⟨S10000x128, .f32⟩
  | 99 => ⟨S10000x128, .f32⟩
  | _ => ⟨S10000x128, .f32⟩

abbrev hbmTy (i : Nat) : BufTy := match i / 128 with
  | 0 => hbmTy0_0 i
  | 1 => hbmTy0_1 i
  | 2 => hbmTy0_2 i
  | 3 => hbmTy0_3 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_cst : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_0 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst_1 : Ref sig .tc := ⟨.hbm, 40, rfl⟩
abbrev main_v17 : Ref sig .tc := ⟨.hbm, 41, rfl⟩
abbrev main_c : Ref sig .tc := ⟨.hbm, 42, rfl⟩
abbrev main_v18 : Ref sig .tc := ⟨.hbm, 43, rfl⟩
abbrev main_v19 : Ref sig .tc := ⟨.hbm, 44, rfl⟩
abbrev main_c_2 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_c_3 : Ref sig .tc := ⟨.hbm, 51, rfl⟩
abbrev main_v25 : Ref sig .tc := ⟨.hbm, 52, rfl⟩
abbrev main_v26 : Ref sig .tc := ⟨.hbm, 53, rfl⟩
abbrev main_c_4 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_5 : Ref sig .tc := ⟨.hbm, 62, rfl⟩
abbrev main_v34 : Ref sig .tc := ⟨.hbm, 63, rfl⟩
abbrev main_v35 : Ref sig .tc := ⟨.hbm, 64, rfl⟩
abbrev main_cst_6 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_7 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_v46 : Ref sig .tc := ⟨.hbm, 80, rfl⟩
abbrev main_cst_8 : Ref sig .tc := ⟨.hbm, 81, rfl⟩
abbrev main_v47 : Ref sig .tc := ⟨.hbm, 82, rfl⟩
abbrev main_v48 : Ref sig .tc := ⟨.hbm, 83, rfl⟩
abbrev main_cst_9 : Ref sig .tc := ⟨.hbm, 84, rfl⟩
abbrev main_v49 : Ref sig .tc := ⟨.hbm, 85, rfl⟩
abbrev main_v50 : Ref sig .tc := ⟨.hbm, 86, rfl⟩
abbrev main_cst_10 : Ref sig .tc := ⟨.hbm, 87, rfl⟩
abbrev main_call2_v0 : Ref sig .tc := ⟨.hbm, 88, rfl⟩
abbrev main_call2_v1 : Ref sig .tc := ⟨.hbm, 89, rfl⟩
abbrev main_v51 : Ref sig .tc := ⟨.hbm, 90, rfl⟩
abbrev main_c_11 : Ref sig .tc := ⟨.hbm, 91, rfl⟩
abbrev main_v52 : Ref sig .tc := ⟨.hbm, 92, rfl⟩
abbrev main_v53 : Ref sig .tc := ⟨.hbm, 93, rfl⟩
abbrev main_c_12 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_cst_13 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_c_14 : Ref sig .tc := ⟨.hbm, 106, rfl⟩
abbrev main_v64 : Ref sig .tc := ⟨.hbm, 107, rfl⟩
abbrev main_v65 : Ref sig .tc := ⟨.hbm, 108, rfl⟩
abbrev main_c_15 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_cst_16 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_c_17 : Ref sig .tc := ⟨.hbm, 119, rfl⟩
abbrev main_v74 : Ref sig .tc := ⟨.hbm, 120, rfl⟩
abbrev main_v75 : Ref sig .tc := ⟨.hbm, 121, rfl⟩
abbrev main_c_18 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_cst_19 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_cst_20 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_cst_21 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_cst_22 : Ref sig .tc := ⟨.hbm, 155, rfl⟩
abbrev main_v105 : Ref sig .tc := ⟨.hbm, 156, rfl⟩
abbrev main_c_23 : Ref sig .tc := ⟨.hbm, 157, rfl⟩
abbrev main_v106 : Ref sig .tc := ⟨.hbm, 158, rfl⟩
abbrev main_v107 : Ref sig .tc := ⟨.hbm, 159, rfl⟩
abbrev main_c_24 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_c_25 : Ref sig .tc := ⟨.hbm, 166, rfl⟩
abbrev main_v113 : Ref sig .tc := ⟨.hbm, 167, rfl⟩
abbrev main_v114 : Ref sig .tc := ⟨.hbm, 168, rfl⟩
abbrev main_c_26 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_cst_27 : Ref sig .tc := ⟨.hbm, 177, rfl⟩
abbrev main_v122 : Ref sig .tc := ⟨.hbm, 178, rfl⟩
abbrev main_v123 : Ref sig .tc := ⟨.hbm, 179, rfl⟩
abbrev main_cst_28 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_cst_29 : Ref sig .tc := ⟨.hbm, 191, rfl⟩
abbrev main_call4_v0 : Ref sig .tc := ⟨.hbm, 192, rfl⟩
abbrev main_call4_v1 : Ref sig .tc := ⟨.hbm, 193, rfl⟩
abbrev main_call4_v2 : Ref sig .tc := ⟨.hbm, 194, rfl⟩
abbrev main_v134 : Ref sig .tc := ⟨.hbm, 195, rfl⟩
abbrev main_cst_30 : Ref sig .tc := ⟨.hbm, 196, rfl⟩
abbrev main_v135 : Ref sig .tc := ⟨.hbm, 197, rfl⟩
abbrev main_v136 : Ref sig .tc := ⟨.hbm, 198, rfl⟩
abbrev main_cst_31 : Ref sig .tc := ⟨.hbm, 199, rfl⟩
abbrev main_v137 : Ref sig .tc := ⟨.hbm, 200, rfl⟩
abbrev main_v138 : Ref sig .tc := ⟨.hbm, 201, rfl⟩
abbrev main_cst_32 : Ref sig .tc := ⟨.hbm, 202, rfl⟩
abbrev main_call5_v0 : Ref sig .tc := ⟨.hbm, 203, rfl⟩
abbrev main_call5_v1 : Ref sig .tc := ⟨.hbm, 204, rfl⟩
abbrev main_v139 : Ref sig .tc := ⟨.hbm, 205, rfl⟩
abbrev main_c_33 : Ref sig .tc := ⟨.hbm, 206, rfl⟩
abbrev main_v140 : Ref sig .tc := ⟨.hbm, 207, rfl⟩
abbrev main_v141 : Ref sig .tc := ⟨.hbm, 208, rfl⟩
abbrev main_c_34 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_cst_35 : Ref sig .tc := ⟨.hbm, 217, rfl⟩
abbrev main_v149 : Ref sig .tc := ⟨.hbm, 218, rfl⟩
abbrev main_v150 : Ref sig .tc := ⟨.hbm, 219, rfl⟩
abbrev main_v151 : Ref sig .tc := ⟨.hbm, 220, rfl⟩
abbrev main_c_36 : Ref sig .tc := ⟨.hbm, 221, rfl⟩
abbrev main_v152 : Ref sig .tc := ⟨.hbm, 222, rfl⟩
abbrev main_v153 : Ref sig .tc := ⟨.hbm, 223, rfl⟩
abbrev main_c_37 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_cst_38 : Ref sig .tc := ⟨.hbm, 230, rfl⟩
abbrev main_v159 : Ref sig .tc := ⟨.hbm, 231, rfl⟩
abbrev main_v160 : Ref sig .tc := ⟨.hbm, 232, rfl⟩
abbrev main_v161 : Ref sig .tc := ⟨.hbm, 233, rfl⟩
abbrev main_c_39 : Ref sig .tc := ⟨.hbm, 234, rfl⟩
abbrev main_v162 : Ref sig .tc := ⟨.hbm, 235, rfl⟩
abbrev main_v163 : Ref sig .tc := ⟨.hbm, 236, rfl⟩
abbrev main_c_40 : Ref sig .tc := ⟨.hbm, 237, rfl⟩
abbrev main_v164 : Ref sig .tc := ⟨.hbm, 238, rfl⟩
abbrev main_v165 : Ref sig .tc := ⟨.hbm, 239, rfl⟩
abbrev main_v166 : Ref sig .tc := ⟨.hbm, 240, rfl⟩
abbrev main_v167 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_v171 : Ref sig .tc := ⟨.hbm, 245, rfl⟩
abbrev main_v172 : Ref sig .tc := ⟨.hbm, 246, rfl⟩
abbrev main_cst_41 : Ref sig .tc := ⟨.hbm, 247, rfl⟩
abbrev main_v173 : Ref sig .tc := ⟨.hbm, 248, rfl⟩
abbrev main_v174 : Ref sig .tc := ⟨.hbm, 249, rfl⟩
abbrev main_v175 : Ref sig .tc := ⟨.hbm, 250, rfl⟩
abbrev main_v176 : Ref sig .tc := ⟨.hbm, 251, rfl⟩
abbrev main_v177 : Ref sig .tc := ⟨.hbm, 252, rfl⟩
abbrev main_v178 : Ref sig .tc := ⟨.hbm, 253, rfl⟩
abbrev main_v179 : Ref sig .tc := ⟨.hbm, 254, rfl⟩
abbrev main_v180 : Ref sig .tc := ⟨.hbm, 255, rfl⟩
abbrev main_v181 : Ref sig .tc := ⟨.hbm, 256, rfl⟩
abbrev main_v182 : Ref sig .tc := ⟨.hbm, 257, rfl⟩
abbrev main_v183 : Ref sig .tc := ⟨.hbm, 258, rfl⟩
abbrev main_v184 : Ref sig .tc := ⟨.hbm, 259, rfl⟩
abbrev main_cst_42 : Ref sig .tc := ⟨.hbm, 260, rfl⟩
abbrev main_v185 : Ref sig .tc := ⟨.hbm, 261, rfl⟩
abbrev main_v186 : Ref sig .tc := ⟨.hbm, 262, rfl⟩
abbrev main_v187 : Ref sig .tc := ⟨.hbm, 263, rfl⟩
abbrev main_v188 : Ref sig .tc := ⟨.hbm, 264, rfl⟩
abbrev main_cst_43 : Ref sig .tc := ⟨.hbm, 265, rfl⟩
abbrev main_v189 : Ref sig .tc := ⟨.hbm, 266, rfl⟩
abbrev main_v190 : Ref sig .tc := ⟨.hbm, 267, rfl⟩
abbrev main_v191 : Ref sig .tc := ⟨.hbm, 268, rfl⟩
abbrev main_v192 : Ref sig .tc := ⟨.hbm, 269, rfl⟩
abbrev main_cst_44 : Ref sig .tc := ⟨.hbm, 270, rfl⟩
abbrev main_v193 : Ref sig .tc := ⟨.hbm, 271, rfl⟩
abbrev main_c_45 : Ref sig .tc := ⟨.hbm, 272, rfl⟩
abbrev main_v194 : Ref sig .tc := ⟨.hbm, 273, rfl⟩
abbrev main_v195 : Ref sig .tc := ⟨.hbm, 274, rfl⟩
abbrev main_c_46 : Ref sig .tc := ⟨.hbm, 275, rfl⟩
abbrev main_v196 : Ref sig .tc := ⟨.hbm, 276, rfl⟩
abbrev main_v197 : Ref sig .tc := ⟨.hbm, 277, rfl⟩
abbrev main_v198 : Ref sig .tc := ⟨.hbm, 278, rfl⟩
abbrev main_v199 : Ref sig .tc := ⟨.hbm, 279, rfl⟩
abbrev main_v200 : Ref sig .tc := ⟨.hbm, 280, rfl⟩
abbrev main_c_47 : Ref sig .tc := ⟨.hbm, 281, rfl⟩
abbrev main_v201 : Ref sig .tc := ⟨.hbm, 282, rfl⟩
abbrev main_v202 : Ref sig .tc := ⟨.hbm, 283, rfl⟩
abbrev main_c_48 : Ref sig .tc := ⟨.hbm, 284, rfl⟩
abbrev main_v203 : Ref sig .tc := ⟨.hbm, 285, rfl⟩
abbrev main_v204 : Ref sig .tc := ⟨.hbm, 286, rfl⟩
abbrev main_v205 : Ref sig .tc := ⟨.hbm, 287, rfl⟩
abbrev main_v206 : Ref sig .tc := ⟨.hbm, 288, rfl⟩
abbrev main_v207 : Ref sig .tc := ⟨.hbm, 289, rfl⟩
abbrev main_v208 : Ref sig .tc := ⟨.hbm, 290, rfl⟩
abbrev main_v209 : Ref sig .tc := ⟨.hbm, 291, rfl⟩
abbrev main_cst_49 : Ref sig .tc := ⟨.hbm, 292, rfl⟩
abbrev main_v210 : Ref sig .tc := ⟨.hbm, 293, rfl⟩
abbrev main_v211 : Ref sig .tc := ⟨.hbm, 294, rfl⟩
abbrev main_cst_50 : Ref sig .tc := ⟨.hbm, 295, rfl⟩
abbrev main_v212 : Ref sig .tc := ⟨.hbm, 296, rfl⟩
abbrev main_v213 : Ref sig .tc := ⟨.hbm, 297, rfl⟩
abbrev main_v214 : Ref sig .tc := ⟨.hbm, 298, rfl⟩
abbrev main_v215 : Ref sig .tc := ⟨.hbm, 299, rfl⟩
abbrev main_v216 : Ref sig .tc := ⟨.hbm, 300, rfl⟩
abbrev main_v217 : Ref sig .tc := ⟨.hbm, 301, rfl⟩
abbrev main_v218 : Ref sig .tc := ⟨.hbm, 302, rfl⟩
abbrev main_v219 : Ref sig .tc := ⟨.hbm, 303, rfl⟩
abbrev main_v220 : Ref sig .tc := ⟨.hbm, 304, rfl⟩
abbrev main_v221 : Ref sig .tc := ⟨.hbm, 305, rfl⟩
abbrev main_cst_51 : Ref sig .tc := ⟨.hbm, 306, rfl⟩
abbrev main_call7_v0 : Ref sig .tc := ⟨.hbm, 307, rfl⟩
abbrev main_call7_v1 : Ref sig .tc := ⟨.hbm, 308, rfl⟩
abbrev main_call7_v2 : Ref sig .tc := ⟨.hbm, 309, rfl⟩
abbrev main_v222 : Ref sig .tc := ⟨.hbm, 310, rfl⟩
abbrev main_cst_52 : Ref sig .tc := ⟨.hbm, 311, rfl⟩
abbrev main_v223 : Ref sig .tc := ⟨.hbm, 312, rfl⟩
abbrev main_v224 : Ref sig .tc := ⟨.hbm, 313, rfl⟩
abbrev main_cst_53 : Ref sig .tc := ⟨.hbm, 314, rfl⟩
abbrev main_v225 : Ref sig .tc := ⟨.hbm, 315, rfl⟩
abbrev main_v226 : Ref sig .tc := ⟨.hbm, 316, rfl⟩
abbrev main_cst_54 : Ref sig .tc := ⟨.hbm, 317, rfl⟩
abbrev main_call8_v0 : Ref sig .tc := ⟨.hbm, 318, rfl⟩
abbrev main_call8_v1 : Ref sig .tc := ⟨.hbm, 319, rfl⟩
abbrev main_v227 : Ref sig .tc := ⟨.hbm, 320, rfl⟩
abbrev main_c_55 : Ref sig .tc := ⟨.hbm, 321, rfl⟩
abbrev main_v228 : Ref sig .tc := ⟨.hbm, 322, rfl⟩
abbrev main_v229 : Ref sig .tc := ⟨.hbm, 323, rfl⟩
abbrev main_c_56 : Ref sig .tc := ⟨.hbm, 324, rfl⟩
abbrev main_v230 : Ref sig .tc := ⟨.hbm, 325, rfl⟩
abbrev main_v231 : Ref sig .tc := ⟨.hbm, 326, rfl⟩
abbrev main_v232 : Ref sig .tc := ⟨.hbm, 327, rfl⟩
abbrev main_v233 : Ref sig .tc := ⟨.hbm, 328, rfl⟩
abbrev main_v234 : Ref sig .tc := ⟨.hbm, 329, rfl⟩
abbrev main_v235 : Ref sig .tc := ⟨.hbm, 330, rfl⟩
abbrev main_v236 : Ref sig .tc := ⟨.hbm, 331, rfl⟩
abbrev main_cst_57 : Ref sig .tc := ⟨.hbm, 332, rfl⟩
abbrev main_v237 : Ref sig .tc := ⟨.hbm, 333, rfl⟩
abbrev main_v238 : Ref sig .tc := ⟨.hbm, 334, rfl⟩
abbrev main_v239 : Ref sig .tc := ⟨.hbm, 335, rfl⟩
abbrev main_c_58 : Ref sig .tc := ⟨.hbm, 336, rfl⟩
abbrev main_v240 : Ref sig .tc := ⟨.hbm, 337, rfl⟩
abbrev main_v241 : Ref sig .tc := ⟨.hbm, 338, rfl⟩
abbrev main_c_59 : Ref sig .tc := ⟨.hbm, 339, rfl⟩
abbrev main_v242 : Ref sig .tc := ⟨.hbm, 340, rfl⟩
abbrev main_v243 : Ref sig .tc := ⟨.hbm, 341, rfl⟩
abbrev main_v244 : Ref sig .tc := ⟨.hbm, 342, rfl⟩
abbrev main_v245 : Ref sig .tc := ⟨.hbm, 343, rfl⟩
abbrev main_v246 : Ref sig .tc := ⟨.hbm, 344, rfl⟩
abbrev main_cst_60 : Ref sig .tc := ⟨.hbm, 345, rfl⟩
abbrev main_v247 : Ref sig .tc := ⟨.hbm, 346, rfl⟩
abbrev main_v248 : Ref sig .tc := ⟨.hbm, 347, rfl⟩
abbrev main_v249 : Ref sig .tc := ⟨.hbm, 348, rfl⟩
abbrev main_c_61 : Ref sig .tc := ⟨.hbm, 349, rfl⟩
abbrev main_v250 : Ref sig .tc := ⟨.hbm, 350, rfl⟩
abbrev main_v251 : Ref sig .tc := ⟨.hbm, 351, rfl⟩
abbrev main_c_62 : Ref sig .tc := ⟨.hbm, 352, rfl⟩
abbrev main_v252 : Ref sig .tc := ⟨.hbm, 353, rfl⟩
abbrev main_v253 : Ref sig .tc := ⟨.hbm, 354, rfl⟩
abbrev main_v254 : Ref sig .tc := ⟨.hbm, 355, rfl⟩
abbrev main_v255 : Ref sig .tc := ⟨.hbm, 356, rfl⟩
abbrev main_v256 : Ref sig .tc := ⟨.hbm, 357, rfl⟩
abbrev main_v257 : Ref sig .tc := ⟨.hbm, 358, rfl⟩
abbrev main_v258 : Ref sig .tc := ⟨.hbm, 359, rfl⟩
abbrev main_v259 : Ref sig .tc := ⟨.hbm, 360, rfl⟩
abbrev main_v260 : Ref sig .tc := ⟨.hbm, 361, rfl⟩
abbrev main_cst_63 : Ref sig .tc := ⟨.hbm, 362, rfl⟩
abbrev main_v261 : Ref sig .tc := ⟨.hbm, 363, rfl⟩
abbrev main_v262 : Ref sig .tc := ⟨.hbm, 364, rfl⟩
abbrev main_v263 : Ref sig .tc := ⟨.hbm, 365, rfl⟩
abbrev main_v264 : Ref sig .tc := ⟨.hbm, 366, rfl⟩
abbrev main_v265 : Ref sig .tc := ⟨.hbm, 367, rfl⟩
abbrev main_v266 : Ref sig .tc := ⟨.hbm, 368, rfl⟩
abbrev main_v267 : Ref sig .tc := ⟨.hbm, 369, rfl⟩
abbrev main_v268 : Ref sig .tc := ⟨.hbm, 370, rfl⟩
abbrev main_v269 : Ref sig .tc := ⟨.hbm, 371, rfl⟩
abbrev main_v270 : Ref sig .tc := ⟨.hbm, 372, rfl⟩
abbrev main_v271 : Ref sig .tc := ⟨.hbm, 373, rfl⟩
abbrev main_v272 : Ref sig .tc := ⟨.hbm, 374, rfl⟩
abbrev main_cst_64 : Ref sig .tc := ⟨.hbm, 375, rfl⟩
abbrev main_v273 : Ref sig .tc := ⟨.hbm, 376, rfl⟩
abbrev main_v274 : Ref sig .tc := ⟨.hbm, 377, rfl⟩
abbrev main_v275 : Ref sig .tc := ⟨.hbm, 378, rfl⟩
abbrev main_v276 : Ref sig .tc := ⟨.hbm, 379, rfl⟩
abbrev main_cst_65 : Ref sig .tc := ⟨.hbm, 380, rfl⟩
abbrev main_v277 : Ref sig .tc := ⟨.hbm, 381, rfl⟩
abbrev main_v278 : Ref sig .tc := ⟨.hbm, 382, rfl⟩
abbrev main_v279 : Ref sig .tc := ⟨.hbm, 383, rfl⟩
abbrev main_v280 : Ref sig .tc := ⟨.hbm, 384, rfl⟩
abbrev main_cst_66 : Ref sig .tc := ⟨.hbm, 385, rfl⟩
abbrev main_v281 : Ref sig .tc := ⟨.hbm, 386, rfl⟩
abbrev main_c_67 : Ref sig .tc := ⟨.hbm, 387, rfl⟩
abbrev main_v282 : Ref sig .tc := ⟨.hbm, 388, rfl⟩
abbrev main_v283 : Ref sig .tc := ⟨.hbm, 389, rfl⟩
abbrev main_c_68 : Ref sig .tc := ⟨.hbm, 390, rfl⟩
abbrev main_v284 : Ref sig .tc := ⟨.hbm, 391, rfl⟩
abbrev main_v285 : Ref sig .tc := ⟨.hbm, 392, rfl⟩
abbrev main_v286 : Ref sig .tc := ⟨.hbm, 393, rfl⟩
abbrev main_v287 : Ref sig .tc := ⟨.hbm, 394, rfl⟩
abbrev main_v288 : Ref sig .tc := ⟨.hbm, 395, rfl⟩
abbrev main_c_69 : Ref sig .tc := ⟨.hbm, 396, rfl⟩
abbrev main_v289 : Ref sig .tc := ⟨.hbm, 397, rfl⟩
abbrev main_v290 : Ref sig .tc := ⟨.hbm, 398, rfl⟩
abbrev main_c_70 : Ref sig .tc := ⟨.hbm, 399, rfl⟩
abbrev main_v291 : Ref sig .tc := ⟨.hbm, 400, rfl⟩
abbrev main_v292 : Ref sig .tc := ⟨.hbm, 401, rfl⟩
abbrev main_v293 : Ref sig .tc := ⟨.hbm, 402, rfl⟩
abbrev main_v294 : Ref sig .tc := ⟨.hbm, 403, rfl⟩
abbrev main_v295 : Ref sig .tc := ⟨.hbm, 404, rfl⟩
abbrev main_v296 : Ref sig .tc := ⟨.hbm, 405, rfl⟩
abbrev main_v297 : Ref sig .tc := ⟨.hbm, 406, rfl⟩
abbrev main_cst_71 : Ref sig .tc := ⟨.hbm, 407, rfl⟩
abbrev main_v298 : Ref sig .tc := ⟨.hbm, 408, rfl⟩
abbrev main_v299 : Ref sig .tc := ⟨.hbm, 409, rfl⟩
abbrev main_cst_72 : Ref sig .tc := ⟨.hbm, 410, rfl⟩
abbrev main_v300 : Ref sig .tc := ⟨.hbm, 411, rfl⟩
abbrev main_v301 : Ref sig .tc := ⟨.hbm, 412, rfl⟩
abbrev main_v302 : Ref sig .tc := ⟨.hbm, 413, rfl⟩
abbrev main_v303 : Ref sig .tc := ⟨.hbm, 414, rfl⟩
abbrev main_v304 : Ref sig .tc := ⟨.hbm, 415, rfl⟩
abbrev main_v305 : Ref sig .tc := ⟨.hbm, 416, rfl⟩
abbrev main_v306 : Ref sig .tc := ⟨.hbm, 417, rfl⟩
abbrev main_v307 : Ref sig .tc := ⟨.hbm, 418, rfl⟩
abbrev main_v308 : Ref sig .tc := ⟨.hbm, 419, rfl⟩
abbrev main_v309 : Ref sig .tc := ⟨.hbm, 420, rfl⟩
abbrev main_cst_73 : Ref sig .tc := ⟨.hbm, 421, rfl⟩
abbrev main_call10_v0 : Ref sig .tc := ⟨.hbm, 422, rfl⟩
abbrev main_call10_v1 : Ref sig .tc := ⟨.hbm, 423, rfl⟩
abbrev main_call10_v2 : Ref sig .tc := ⟨.hbm, 424, rfl⟩
abbrev main_v310 : Ref sig .tc := ⟨.hbm, 425, rfl⟩
abbrev main_cst_74 : Ref sig .tc := ⟨.hbm, 426, rfl⟩
abbrev main_v311 : Ref sig .tc := ⟨.hbm, 427, rfl⟩
abbrev main_v312 : Ref sig .tc := ⟨.hbm, 428, rfl⟩
abbrev main_cst_75 : Ref sig .tc := ⟨.hbm, 429, rfl⟩
abbrev main_v313 : Ref sig .tc := ⟨.hbm, 430, rfl⟩
abbrev main_v314 : Ref sig .tc := ⟨.hbm, 431, rfl⟩
abbrev main_cst_76 : Ref sig .tc := ⟨.hbm, 432, rfl⟩
abbrev main_call11_v0 : Ref sig .tc := ⟨.hbm, 433, rfl⟩
abbrev main_call11_v1 : Ref sig .tc := ⟨.hbm, 434, rfl⟩
abbrev main_v315 : Ref sig .tc := ⟨.hbm, 435, rfl⟩
abbrev main_c_77 : Ref sig .tc := ⟨.hbm, 436, rfl⟩
abbrev main_v316 : Ref sig .tc := ⟨.hbm, 437, rfl⟩
abbrev main_v317 : Ref sig .tc := ⟨.hbm, 438, rfl⟩
abbrev main_c_78 : Ref sig .tc := ⟨.hbm, 439, rfl⟩
abbrev main_v318 : Ref sig .tc := ⟨.hbm, 440, rfl⟩
abbrev main_v319 : Ref sig .tc := ⟨.hbm, 441, rfl⟩
abbrev main_v320 : Ref sig .tc := ⟨.hbm, 442, rfl⟩
abbrev main_v321 : Ref sig .tc := ⟨.hbm, 443, rfl⟩
abbrev main_v322 : Ref sig .tc := ⟨.hbm, 444, rfl⟩
abbrev main_v323 : Ref sig .tc := ⟨.hbm, 445, rfl⟩
abbrev main_v324 : Ref sig .tc := ⟨.hbm, 446, rfl⟩
abbrev main_cst_79 : Ref sig .tc := ⟨.hbm, 447, rfl⟩
abbrev main_v325 : Ref sig .tc := ⟨.hbm, 448, rfl⟩
abbrev main_v326 : Ref sig .tc := ⟨.hbm, 449, rfl⟩
abbrev main_v327 : Ref sig .tc := ⟨.hbm, 450, rfl⟩
abbrev main_c_80 : Ref sig .tc := ⟨.hbm, 451, rfl⟩
abbrev main_v328 : Ref sig .tc := ⟨.hbm, 452, rfl⟩
abbrev main_v329 : Ref sig .tc := ⟨.hbm, 453, rfl⟩
abbrev main_c_81 : Ref sig .tc := ⟨.hbm, 454, rfl⟩
abbrev main_v330 : Ref sig .tc := ⟨.hbm, 455, rfl⟩
abbrev main_v331 : Ref sig .tc := ⟨.hbm, 456, rfl⟩
abbrev main_v332 : Ref sig .tc := ⟨.hbm, 457, rfl⟩
abbrev main_v333 : Ref sig .tc := ⟨.hbm, 458, rfl⟩
abbrev main_v334 : Ref sig .tc := ⟨.hbm, 459, rfl⟩
abbrev main_cst_82 : Ref sig .tc := ⟨.hbm, 460, rfl⟩
abbrev main_v335 : Ref sig .tc := ⟨.hbm, 461, rfl⟩
abbrev main_v336 : Ref sig .tc := ⟨.hbm, 462, rfl⟩
abbrev main_v337 : Ref sig .tc := ⟨.hbm, 463, rfl⟩
abbrev main_c_83 : Ref sig .tc := ⟨.hbm, 464, rfl⟩
abbrev main_v338 : Ref sig .tc := ⟨.hbm, 465, rfl⟩
abbrev main_v339 : Ref sig .tc := ⟨.hbm, 466, rfl⟩
abbrev main_c_84 : Ref sig .tc := ⟨.hbm, 467, rfl⟩
abbrev main_v340 : Ref sig .tc := ⟨.hbm, 468, rfl⟩
abbrev main_v341 : Ref sig .tc := ⟨.hbm, 469, rfl⟩
abbrev main_v342 : Ref sig .tc := ⟨.hbm, 470, rfl⟩
abbrev main_v343 : Ref sig .tc := ⟨.hbm, 471, rfl⟩
abbrev main_v344 : Ref sig .tc := ⟨.hbm, 472, rfl⟩
abbrev main_v345 : Ref sig .tc := ⟨.hbm, 473, rfl⟩
abbrev main_v346 : Ref sig .tc := ⟨.hbm, 474, rfl⟩
abbrev main_v347 : Ref sig .tc := ⟨.hbm, 475, rfl⟩
abbrev main_v348 : Ref sig .tc := ⟨.hbm, 476, rfl⟩
abbrev main_cst_85 : Ref sig .tc := ⟨.hbm, 477, rfl⟩
abbrev main_v349 : Ref sig .tc := ⟨.hbm, 478, rfl⟩
abbrev main_v350 : Ref sig .tc := ⟨.hbm, 479, rfl⟩
abbrev main_v351 : Ref sig .tc := ⟨.hbm, 480, rfl⟩
abbrev main_v352 : Ref sig .tc := ⟨.hbm, 481, rfl⟩
abbrev main_v353 : Ref sig .tc := ⟨.hbm, 482, rfl⟩
abbrev main_v354 : Ref sig .tc := ⟨.hbm, 483, rfl⟩

abbrev nD : Nat := 1
abbrev τ : Topo := Topo.v7x

variable {F : FTy → Type} [FloatOps F]
-- ==== Proof.Layer.lean ====
/- The mathematics of one edge-attention layer over the real numbers: what the layer computes (`Gat.layer`), and the two
   arrangements of it that the programs use. The kernel's exponentials are not shifted and it divides once per node; the
   reference shifts the exponentials by a maximum per node and divides once per edge. Both are the layer. -/
module

public import Mathlib.Analysis.SpecialFunctions.Exp
public import Mathlib.Algebra.BigOperators.Field
public import Mathlib.Algebra.Order.BigOperators.Group.Finset

@[expose] public section

noncomputable section

open scoped BigOperators

namespace Gat

variable {N E D K H : Type} [Fintype N] [Fintype E] [Fintype D] [Fintype K] [Fintype H] [DecidableEq N]

/-- A matrix product: row `n` of `x` against column `h` of `w`. -/
def mm {A B C : Type} [Fintype B] (x : A → B → ℝ) (w : B → C → ℝ) (n : A) (h : C) : ℝ := ∑ k, x n k * w k h

/-- A matrix against a vector. -/
def mv {A B : Type} [Fintype B] (x : A → B → ℝ) (v : B → ℝ) (n : A) : ℝ := ∑ k, x n k * v k

/-- The leaky rectifier of slope `c`. -/
def leaky (c r : ℝ) : ℝ := if 0 < r then r else c * r

/-- An edge's attention logit before the rectifier: a term of its source `s e`, a term of its target `d e` and a term of its own. -/
def logit (s d : E → N) (ft : N → H → ℝ) (fe : E → H → ℝ) (al ar ae : H → ℝ) (e : E) : ℝ :=
  mv ft al (s e) + mv ft ar (d e) + mv fe ae e

/-- The attention-weighted mean of the messages `ft (s e) + fe e` over the edges `e` that end in node `n`, each edge
    weighted by the exponential of its rectified logit `z e`. The node an edge ends in is `l e`, if there is one. -/
def attend (s : E → N) (l : E → Option N) (ft : N → H → ℝ) (fe : E → H → ℝ) (z : E → ℝ) (n : N) (h : H) : ℝ :=
  (∑ e with l e = some n, Real.exp (z e) * (ft (s e) h + fe e h)) / (∑ e with l e = some n, Real.exp (z e))

/-- ONE LAYER, before its bias: node features `x · W`, edge features `ein · We`, and the attention-weighted mean of their sums.
    `s e` and `d e` are the nodes whose terms an edge's logit reads, `l e` the node the edge's message goes to; where an edge has
    such a node it is `d e`. -/
def layer (c : ℝ) (s d : E → N) (l : E → Option N) (ein : E → K → ℝ) (x : N → D → ℝ) (W : D → H → ℝ) (We : K → H → ℝ)
    (al ar ae : H → ℝ) : N → H → ℝ :=
  attend s l (mm x W) (mm ein We) (fun e => leaky c (logit s d (mm x W) (mm ein We) al ar ae e))

/-! ## The two arrangements -/

/-- Where the exponentials' sum is no smaller than the guard `eps` at every node that has an edge, the quotient with the
    guard is the quotient without it. -/
theorem guard_div {num den eps : ℝ} (h : eps ≤ den ∨ (num = 0 ∧ den = 0)) :
    num / max den eps = num / den := by
  rcases h with h | ⟨h1, h2⟩
  · rw [max_eq_left h]
  · rw [h1, zero_div, zero_div]

/-- Weighted node features and weighted edge inputs, summed apart and the latter multiplied by `We` afterwards, are the
    weighted messages. -/
theorem messages_split (s : E → N) (l : E → Option N) (ft : N → H → ℝ) (ein : E → K → ℝ) (We : K → H → ℝ) (w : E → ℝ) (n : N) (h : H) :
    (∑ e with l e = some n, w e * ft (s e) h) + ∑ k, (∑ e with l e = some n, w e * ein e k) * We k h
      = ∑ e with l e = some n, w e * (ft (s e) h + mm ein We e h) := by
  have h1 : ∑ k, (∑ e with l e = some n, w e * ein e k) * We k h = ∑ e with l e = some n, w e * mm ein We e h := by
    simp only [Finset.sum_mul, mm, Finset.mul_sum]
    rw [Finset.sum_comm]
    simp only [mul_assoc]
  rw [h1, ← Finset.sum_add_distrib]
  simp only [mul_add]

/-- THE KERNEL'S ARRANGEMENT: the weighted sums first, the product with `We` and one guarded division per node after. -/
theorem kernel_form (s : E → N) (l : E → Option N) (ft : N → H → ℝ) (ein : E → K → ℝ) (We : K → H → ℝ) (z : E → ℝ)
    (eps : ℝ) (hz : ∀ e, eps ≤ Real.exp (z e)) (n : N) (h : H) :
    ((∑ e with l e = some n, Real.exp (z e) * ft (s e) h) + ∑ k, (∑ e with l e = some n, Real.exp (z e) * ein e k) * We k h)
        / max (∑ e with l e = some n, Real.exp (z e)) eps
      = attend s l ft (mm ein We) z n h := by
  rw [messages_split, attend]
  refine guard_div ?_
  rcases (Finset.univ.filter fun e => l e = some n).eq_empty_or_nonempty with he | ⟨e, he⟩
  · right; rw [he]; simp
  · left
    exact (hz e).trans (Finset.single_le_sum (f := fun e => Real.exp (z e)) (fun i _ => (Real.exp_pos _).le) he)

/-- THE REFERENCE'S ARRANGEMENT: the exponentials shifted by `mx` of the target node, and one guarded division per edge.
    Where the shift of every node that has an edge is attained by one of its edges, the shifted sum is at least 1. -/
theorem reference_form (s d : E → N) (l : E → Option N) (hl : ∀ e n, l e = some n → d e = n) (ft : N → H → ℝ) (fe : E → H → ℝ)
    (z : E → ℝ) (mx : N → ℝ) (eps : ℝ) (heps : eps ≤ 1) (hmx : ∀ e n, l e = some n → ∃ e', l e' = some n ∧ z e' = mx n)
    (n : N) (h : H) :
    ∑ e with l e = some n, (ft (s e) h + fe e h)
        * (Real.exp (z e - mx (d e)) / max (∑ e' with l e' = some (d e), Real.exp (z e' - mx (d e'))) eps)
      = attend s l ft fe z n h := by
  rw [attend, Finset.sum_div]
  refine Finset.sum_congr rfl fun e he => ?_
  have hle : l e = some n := (Finset.mem_filter.1 he).2
  have hn : d e = n := hl e n hle
  have hden : ∑ e' with l e' = some (d e), Real.exp (z e' - mx (d e'))
      = (∑ e' with l e' = some n, Real.exp (z e')) / Real.exp (mx n) := by
    rw [Finset.sum_div, hn]
    refine Finset.sum_congr rfl fun e' he' => ?_
    rw [hl e' n (Finset.mem_filter.1 he').2, Real.exp_sub]
  have hge : eps ≤ ∑ e' with l e' = some (d e), Real.exp (z e' - mx (d e')) := by
    obtain ⟨e', h1, h2⟩ := hmx e n hle
    refine heps.trans (le_trans ?_ (Finset.single_le_sum (f := fun e' => Real.exp (z e' - mx (d e')))
      (fun i _ => (Real.exp_pos _).le) (Finset.mem_filter.2 ⟨Finset.mem_univ e', by rw [hn]; exact h1⟩)))
    show (1 : ℝ) ≤ Real.exp (z e' - mx (d e'))
    rw [hl e' n h1, h2, sub_self, Real.exp_zero]
  rw [max_eq_left hge, hden, hn, Real.exp_sub]
  have hx := (Real.exp_pos (mx n)).ne'
  rw [div_div_div_cancel_right₀ hx]
  ring

/-! ## The bound on the logits -/

/-- A row whose entries' absolute values against the absolute values of `W · v` come to at most `B`: its product with
    `W`, against `v`, is at most `B` in absolute value. -/
theorem abs_mv_mm_le {A : Type} (x : A → D → ℝ) (W : D → H → ℝ) (v : H → ℝ) (n : A) (B : ℝ)
    (hB : ∑ k, |x n k| * |mv W v k| ≤ B) : |mv (mm x W) v n| ≤ B := by
  have h1 : mv (mm x W) v n = ∑ k, x n k * mv W v k := by
    simp only [mv, mm, Finset.sum_mul, Finset.mul_sum]
    rw [Finset.sum_comm]
    simp only [mul_assoc]
  rw [h1]
  refine (Finset.abs_sum_le_sum_abs _ _).trans (le_trans (le_of_eq ?_) hB)
  simp only [abs_mul]

/-- Reading the product with `We` and then against `ae` is reading the product with the vector `We · ae`. -/
theorem mv_mm {A : Type} (x : A → D → ℝ) (W : D → H → ℝ) (v : H → ℝ) (n : A) :
    mv (mm x W) v n = ∑ k, x n k * mv W v k := by
  simp only [mv, mm, Finset.sum_mul, Finset.mul_sum]
  rw [Finset.sum_comm]
  simp only [mul_assoc]

/-- With a slope between 0 and 1/5 + 1/1000, the rectifier takes a number no smaller than -90 to one no smaller than -19. -/
theorem leaky_ge {c r : ℝ} (hc : 0 ≤ c) (hc' : c ≤ 201 / 1000) (hr : -90 ≤ r) : -19 ≤ leaky c r := by
  unfold leaky
  split
  · linarith
  · nlinarith

/-- The exponential of a number no smaller than -19 is at least 2⁻²⁹: it is at least (1 - 1/12) to the 228th power. -/
theorem exp_ge {z : ℝ} (hz : -19 ≤ z) : (1 : ℝ) / 2 ^ 29 ≤ Real.exp z := by
  refine le_trans ?_ (Real.exp_le_exp.2 hz)
  have h1 : Real.exp (-19) = Real.exp (-(1 / 12)) ^ 228 := by rw [← Real.exp_nat_mul]; norm_num
  have h2 : (11 / 12 : ℝ) ≤ Real.exp (-(1 / 12)) := by
    have := Real.add_one_le_exp (-(1 / 12) : ℝ); linarith
  rw [h1]
  exact le_trans (by norm_num) (pow_le_pow_left₀ (by norm_num) h2 228)

/-- Three terms of at most 30 each: the edge's exponential is at least 2⁻²⁹. -/
theorem exp_leaky_ge (c : ℝ) (hc : 0 ≤ c) (hc' : c ≤ 201 / 1000) (s d : E → N) (ft : N → H → ℝ) (fe : E → H → ℝ)
    (al ar ae : H → ℝ) (hl : ∀ n, |mv ft al n| ≤ 30) (hr : ∀ n, |mv ft ar n| ≤ 30) (he : ∀ e, |mv fe ae e| ≤ 30) (e : E) :
    (1 : ℝ) / 2 ^ 29 ≤ Real.exp (leaky c (logit s d ft fe al ar ae e)) := by
  refine exp_ge (leaky_ge hc hc' ?_)
  have h1 := (abs_le.1 (hl (s e))).1
  have h2 := (abs_le.1 (hr (d e))).1
  have h3 := (abs_le.1 (he e)).1
  unfold logit
  linarith

end Gat

end
-- ==== Proof.Lift.lean ====
/- Arrays of real numbers among the arrays of extended reals, and what the programs' operations do to them: products,
   row sums, look-ups of rows, accumulation into rows. Each theorem reads one operation, at any extents. -/
module

public import proofs.«01_k».proof.Proof.Layer
public import Idealize.ShloMosaic.Lib.MatmulPlain
public import Idealize.ShloMosaic.Lib.IdealHost
public import Idealize.ShloMosaic.Lib.Pipeline.Value
public import Idealize.ShloMosaic.Lib.Routing.OpsSet
public import Idealize.ShloMosaic.Lib.Routing.OpsPair
public import Idealize.ShloMosaic.Lib.Routing.Ops

@[expose] public section

noncomputable section

open scoped BigOperators

namespace Gat

open Idealize.ShloMosaic Idealize.ShloMosaic.ValueIdx

/-- A vector of reals as an array of extended reals. -/
def up1 {a : Nat} (f : Fin a → ℝ) : FVec Ideal ⟨1, ![a]⟩ .f32 := fun i => ((f (i 0) : ℝ) : EReal)

/-- A matrix of reals as an array of extended reals. -/
def up2 {a b : Nat} (f : Fin a → Fin b → ℝ) : FVec Ideal ⟨2, ![a, b]⟩ .f32 := fun i => ((f (i 0) (i 1) : ℝ) : EReal)

theorem up1_ix {a : Nat} (f : Fin a → ℝ) (i : Fin a) : up1 f (ix1 i) = ((f i : ℝ) : EReal) := rfl

theorem up2_ix {a b : Nat} (f : Fin a → Fin b → ℝ) (i : Fin a) (j : Fin b) : up2 f (ix2 i j) = ((f i j : ℝ) : EReal) := rfl

/-- Two vectors are equal when they are at every coordinate. -/
theorem ext1 {a : Nat} {α : Type} {f g : (⟨1, ![a]⟩ : Shape).Idx → α} (h : ∀ i, f (ix1 i) = g (ix1 i)) : f = g :=
  funext fun i => by rw [eq_ix1 i]; exact h _

/-- Two matrices are equal when they are at every pair of coordinates. -/
theorem ext2 {a b : Nat} {α : Type} {f g : (⟨2, ![a, b]⟩ : Shape).Idx → α} (h : ∀ i j, f (ix2 i j) = g (ix2 i j)) : f = g :=
  funext fun i => by rw [eq_ix2 i]; exact h _ _

/-- A finite sum of reals, read as an extended real, is the sum of the extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The larger of two reals, read as an extended real. -/
theorem coe_max (a b : ℝ) : ((max a b : ℝ) : EReal) = max (a : EReal) (b : EReal) := by
  rcases le_total a b with h | h
  · rw [max_eq_right h, max_eq_right (EReal.coe_le_coe_iff.2 h)]
  · rw [max_eq_left h, max_eq_left (EReal.coe_le_coe_iff.2 h)]

/-- The quotient of two reals, the divisor not zero. -/
theorem coe_div {a b : ℝ} (h : b ≠ 0) : Ideal.div (a : EReal) (b : EReal) = ((a / b : ℝ) : EReal) := by
  rw [Ideal.div_coe h, ← EReal.coe_mul, mul_one_div]

/-! ## Products -/

/-- A host matrix product of two real matrices is their product over the reals. -/
theorem dot_up {M K N : ℕ} (d : DotDims ⟨2, ![M, K]⟩ ⟨2, ![K, N]⟩ ⟨2, ![M, N]⟩) (hd : d = DotDims.plain M K N)
    (x : Fin M → Fin K → ℝ) (w : Fin K → Fin N → ℝ) :
    Host.dotGeneral d none (up2 x) (up2 w) = up2 (mm x w) := by
  subst hd
  refine ext2 fun r c => ?_
  simp only [Host.dotGeneral]
  rw [Ideal.dotGeneral_apply]
  have h := Ideal.matmul_plain_apply (M := M) (K := K) (N := N) (φ₁ := .f32) (φ₂ := .f32) none (up2 x) (up2 w)
    (constant _ .f32 0x00000000#32) r c
  rw [Ideal.matmul_constant_zero_apply] at h
  rw [h]
  show Ideal.ofBits .f32 0x00000000#32 + _ = _
  rw [Ideal.ofBits_zero_f32, zero_add, up2_ix, mm, coe_sum]
  simp only [up2_ix, EReal.coe_mul]

/-- A kernel's matrix product of two real matrices, into an accumulator of zeros, is their product over the reals. -/
theorem matmul_up {M K N : ℕ} (d : DotDims ⟨2, ![M, K]⟩ ⟨2, ![K, N]⟩ ⟨2, ![M, N]⟩) (hd : d = DotDims.plain M K N)
    (prec : Option ContractPrecision) (x : Fin M → Fin K → ℝ) (w : Fin K → Fin N → ℝ) :
    FloatOps.matmul d prec (up2 x) (up2 w) (constant ⟨2, ![M, N]⟩ .f32 0x00000000#32) = up2 (mm x w) := by
  subst hd
  refine ext2 fun r c => ?_
  rw [Ideal.matmul_plain_apply]
  show Ideal.ofBits .f32 0x00000000#32 + _ = _
  rw [Ideal.ofBits_zero_f32, zero_add, up2_ix, mm, coe_sum]
  simp only [up2_ix, EReal.coe_mul]

/-! ## Row sums, and vectors spread over a matrix -/

/-- The host's sum along the rows of a real matrix. -/
theorem rowSum_up {A B : ℕ} (h' : (⟨2, ![A, B]⟩ : Shape).ReducesTo [1] ⟨1, ![A]⟩)
    (hu : 0 < (⟨0, ![]⟩ : Shape).numel) (x : Fin A → Fin B → ℝ) :
    Host.reduceAdd (up2 x) (constant (⟨0, ![]⟩ : Shape) .f32 0x00000000#32) h' hu = up1 (fun a => ∑ b, x a b) := by
  refine ext1 fun r => ?_
  rw [hostReduceAdd_apply]
  unfold Ideal.hostReduceAdd
  show Ideal.ofBits .f32 0x00000000#32 + _ = _
  rw [Ideal.ofBits_zero_f32, zero_add, up1_ix, coe_sum]
  have hv : ∀ i : (⟨2, ![A, B]⟩ : Shape).Idx, (h'.drop i 0).val = (i 0).val := fun i =>
    h'.drop_apply_val_of_eq i 0 0 Nat.one_pos rfl
  refine (Finset.sum_bij (fun b _ => ix2 r b) (fun b _ => ?_) (fun b _ b' _ e => ?_) (fun i hi => ?_) (fun b _ => rfl)).symm
  · refine Finset.mem_filter.2 ⟨Finset.mem_univ _, funext fun a => ?_⟩
    obtain rfl : a = 0 := Subsingleton.elim _ _
    exact Fin.ext (hv _)
  · exact congrFun e 1
  · have h0 := congrArg Fin.val (congrFun (Finset.mem_filter.1 hi).2 0)
    rw [hv] at h0
    refine ⟨i 1, Finset.mem_univ _, ?_⟩
    rw [eq_ix2 i]
    have : i 0 = r := Fin.ext h0
    rw [this]
    rfl

/-- A vector placed along the columns and repeated down the rows reads its entry of the column. -/
theorem spread_cols {α : Type} {A B : ℕ} (h1 : (⟨1, ![B]⟩ : Shape).BroadcastsInDim ⟨2, ![1, B]⟩ ![1])
    (h2 : (⟨2, ![1, B]⟩ : Shape).BroadcastsInDim ⟨2, ![A, B]⟩ ![0, 1]) (v : (⟨1, ![B]⟩ : Shape).Idx → α) (i : Fin A) (j : Fin B) :
    broadcastInDim ⟨2, ![A, B]⟩ ![0, 1] h2 (broadcastInDim ⟨2, ![1, B]⟩ ![1] h1 v) (ix2 i j) = v (ix1 j) := by
  refine (broadcastInDim_apply _ h2 _ _ (ix2 (0 : Fin 1) j) fun e => ?_).trans (broadcastInDim_apply _ h1 v _ _ fun e => ?_)
  · match e with
    | ⟨0, _⟩ => rfl
    | ⟨1, _⟩ =>
      show j.val = if B = 1 then 0 else j.val
      have := j.isLt
      split <;> omega
  · match e with
    | ⟨0, _⟩ =>
      show j.val = if B = 1 then 0 else j.val
      have := j.isLt
      split <;> omega

/-- A vector as a column reads its entry of the row. -/
theorem as_col {α : Type} {A : ℕ} (h1 : (⟨1, ![A]⟩ : Shape).BroadcastsInDim ⟨2, ![A, 1]⟩ ![0])
    (v : (⟨1, ![A]⟩ : Shape).Idx → α) (i : Fin A) (j : Fin 1) :
    broadcastInDim ⟨2, ![A, 1]⟩ ![0] h1 v (ix2 i j) = v (ix1 i) := by
  refine broadcastInDim_apply _ h1 v _ _ fun e => ?_
  match e with
  | ⟨0, _⟩ =>
    show i.val = if A = 1 then 0 else i.val
    have := i.isLt
    split <;> omega

/-- A vector as a column, repeated along the columns, reads its entry of the row. -/
theorem spread_rows {α : Type} {A B : ℕ} (h1 : (⟨1, ![A]⟩ : Shape).BroadcastsInDim ⟨2, ![A, 1]⟩ ![0])
    (h2 : (⟨2, ![A, 1]⟩ : Shape).BroadcastsInDim ⟨2, ![A, B]⟩ ![0, 1]) (v : (⟨1, ![A]⟩ : Shape).Idx → α) (i : Fin A) (j : Fin B) :
    broadcastInDim ⟨2, ![A, B]⟩ ![0, 1] h2 (broadcastInDim ⟨2, ![A, 1]⟩ ![0] h1 v) (ix2 i j) = v (ix1 i) := by
  refine (broadcastInDim_apply _ h2 _ _ (ix2 i (0 : Fin 1)) fun e => ?_).trans (as_col h1 v i 0)
  match e with
  | ⟨0, _⟩ =>
    show i.val = if A = 1 then 0 else i.val
    have := i.isLt
    split <;> omega
  | ⟨1, _⟩ => rfl

/-! ## Look-ups and accumulation by rows -/

/-- An index column's look-ups read the nodes `t e`: its words, read signed and held to the range `0 … N - 1`. -/
def Holds {E N : ℕ} (idx : IVec ⟨2, ![E, 1]⟩ 32) (t : Fin E → Fin N) : Prop :=
  ∀ e, (t e).val = min (idx (ix2 e (0 : Fin 1))).toInt.toNat (N - 1)

/-- An index column's accumulations go to the nodes `l e`, or nowhere: a word that is no node's number has none. -/
def Lands {E N : ℕ} (idx : IVec ⟨2, ![E, 1]⟩ 32) (l : Fin E → Option (Fin N)) : Prop :=
  ∀ e n, (idx (ix2 e (0 : Fin 1))).toInt = ((n : Fin N).val : Int) ↔ l e = some n

/-- A look-up reads its operand at the index held to the operand's range, so an index column may be replaced by the nodes'
    numbers. -/
theorem gather_held {α : Type} {s t : Shape} {E N : ℕ} (d : GatherDims s ⟨2, ![E, 1]⟩ t) (hrow : ∀ a ∈ d.startIndexMap,
    s.size a - d.sliceSizes a = N - 1) (x : s.Idx → α) (idx : IVec ⟨2, ![E, 1]⟩ 32) (r : Fin E → Fin N) (hr : Holds idx r)
    (hN : N < 2 ^ 31) : Host.gather d x idx = Host.gather d x (fun q => BitVec.ofNat 32 (r (q 0)).val) := by
  refine funext fun j => congrArg x (funext fun a => Fin.ext ?_)
  show d.start j idx a + _ + _ = d.start j _ a + _ + _
  congr 2
  unfold GatherDims.start
  split
  · next hm =>
    rw [hrow a hm]
    have key : ∀ q : (⟨2, ![E, 1]⟩ : Shape).Idx, min (idx q).toInt.toNat (N - 1)
        = min (BitVec.ofNat 32 (r (q 0)).val).toInt.toNat (N - 1) := fun q => by
      have hq : q = ix2 (q 0) (0 : Fin 1) := (eq_ix2 q).trans (congrArg (ix2 (q 0)) (Subsingleton.elim (α := Fin 1) _ _))
      have hlt := (r (q 0)).isLt
      have hle : (r (q 0)).val ≤ N - 1 := by omega
      rw [StableHlo.Predicate.toInt_ofNat_small _ (by omega), Int.toNat_natCast, min_eq_left hle]
      exact (congrArg (fun p => min (idx p).toInt.toNat (N - 1)) hq).trans (hr (q 0)).symm
    exact key _
  · rfl

/-- A look-up of entries of a real vector. -/
theorem take_up {N E : ℕ} (d : GatherDims ⟨1, ![N]⟩ ⟨2, ![E, 1]⟩ ⟨1, ![E]⟩) (hcoll : d.collapsedSliceDims = [0])
    (hob : d.operandBatchingDims = []) (hsim : d.startIndexMap = [0]) (hivd : d.indexVectorDim = 1)
    (x : Fin N → ℝ) (idx : IVec ⟨2, ![E, 1]⟩ 32) (t : Fin E → Fin N) (ht : Holds idx t) (hN : N < 2 ^ 31) :
    Host.gather d (up1 x) idx = up1 (fun e => x (t e)) := by
  rw [gather_held d (fun a ha => ?_) (up1 x) idx t ht hN]
  · exact ext1 fun e => Routing.gather_take1 d hcoll hob hsim hivd (up1 x) _ e (t e) rfl hN
  · rw [hsim] at ha
    obtain rfl := List.mem_singleton.1 ha
    rw [d.slice_collapsed 0 (by rw [hcoll]; exact List.mem_singleton.2 rfl)]
    rfl

/-- A look-up of rows of a real matrix. -/
theorem takeRows_up {N C E : ℕ} (d : GatherDims ⟨2, ![N, C]⟩ ⟨2, ![E, 1]⟩ ⟨2, ![E, C]⟩) (hoff : d.offsetDims = [1])
    (hcoll : d.collapsedSliceDims = [0]) (hob : d.operandBatchingDims = []) (hsim : d.startIndexMap = [0])
    (hivd : d.indexVectorDim = 1) (x : Fin N → Fin C → ℝ) (idx : IVec ⟨2, ![E, 1]⟩ 32) (t : Fin E → Fin N)
    (ht : Holds idx t) (hN : N < 2 ^ 31) :
    Host.gather d (up2 x) idx = up2 (fun e c => x (t e) c) := by
  rw [gather_held d (fun a ha => ?_) (up2 x) idx t ht hN]
  · exact ext2 fun e c => Routing.gather_row d hoff hcoll hob hsim hivd (up2 x) _ e c (t e) rfl hN
  · rw [hsim] at ha
    obtain rfl := List.mem_singleton.1 ha
    rw [d.slice_collapsed 0 (by rw [hcoll]; exact List.mem_singleton.2 rfl)]
    rfl

/-- An update of a vector's accumulation lands at `n` exactly when its index word is the number `n`. -/
theorem lands1 {N E : ℕ} (d : ScatterDims ⟨1, ![N]⟩ ⟨2, ![E, 1]⟩ ⟨1, ![E]⟩) (hd : ∃ wf, d = ⟨[], [0], [0], 1, wf⟩)
    (idx : IVec ⟨2, ![E, 1]⟩ 32) (e : Fin E) (n : Fin N) :
    d.resultIdx? (ix1 e) idx = some (ix1 n) ↔ (idx (ix2 e (0 : Fin 1))).toInt = (n.val : Int) := by
  obtain ⟨wf, rfl⟩ := hd
  rw [Routing.resultIdx?_ix1]
  have hw : (ScatterDims.mk (s := ⟨1, ![N]⟩) (si := ⟨2, ![E, 1]⟩) (u := ⟨1, ![E]⟩) [] [0] [0] 1 wf).window (ix1 e) 0 = 0 := rfl
  have hs : (ScatterDims.mk (s := ⟨1, ![N]⟩) (si := ⟨2, ![E, 1]⟩) (u := ⟨1, ![E]⟩) [] [0] [0] 1 wf).start (ix1 e) idx 0
      = (idx (ix2 e (0 : Fin 1))).toInt := by
    unfold ScatterDims.start
    rw [dif_pos (List.mem_singleton.2 rfl)]
    refine congrArg (fun q => (idx q).toInt) (funext fun b => Fin.ext ?_)
    match b with
    | ⟨0, _⟩ => rfl
    | ⟨1, _⟩ => rfl
  rw [hw, hs]
  simp

/-- An update of a matrix's accumulation by rows lands at `(n, c)` exactly when its index word is `n` and its column `c`. -/
theorem lands2 {N C E : ℕ} (d : ScatterDims ⟨2, ![N, C]⟩ ⟨2, ![E, 1]⟩ ⟨2, ![E, C]⟩) (hd : ∃ wf, d = ⟨[1], [0], [0], 1, wf⟩)
    (idx : IVec ⟨2, ![E, 1]⟩ 32) (e : Fin E) (c' : Fin C) (n : Fin N) (c : Fin C) :
    d.resultIdx? (ix2 e c') idx = some (ix2 n c) ↔ (idx (ix2 e (0 : Fin 1))).toInt = (n.val : Int) ∧ c' = c := by
  obtain ⟨wf, rfl⟩ := hd
  rw [Routing.resultIdx?_ix2]
  have hw0 : (ScatterDims.mk (s := ⟨2, ![N, C]⟩) (si := ⟨2, ![E, 1]⟩) (u := ⟨2, ![E, C]⟩) [1] [0] [0] 1 wf).window (ix2 e c') 0 = 0 := rfl
  have hw1 : (ScatterDims.mk (s := ⟨2, ![N, C]⟩) (si := ⟨2, ![E, 1]⟩) (u := ⟨2, ![E, C]⟩) [1] [0] [0] 1 wf).window (ix2 e c') 1 = c'.val := rfl
  have hs1 : (ScatterDims.mk (s := ⟨2, ![N, C]⟩) (si := ⟨2, ![E, 1]⟩) (u := ⟨2, ![E, C]⟩) [1] [0] [0] 1 wf).start (ix2 e c') idx 1 = 0 := by
    unfold ScatterDims.start
    rw [dif_neg (fun h => absurd (List.mem_singleton.1 h) (by decide : (1 : Fin 2) ≠ 0))]
  have hs0 : (ScatterDims.mk (s := ⟨2, ![N, C]⟩) (si := ⟨2, ![E, 1]⟩) (u := ⟨2, ![E, C]⟩) [1] [0] [0] 1 wf).start (ix2 e c') idx 0
      = (idx (ix2 e (0 : Fin 1))).toInt := by
    unfold ScatterDims.start
    rw [dif_pos (List.mem_singleton.2 rfl)]
    refine congrArg (fun q => (idx q).toInt) (funext fun b => Fin.ext ?_)
    match b with
    | ⟨0, _⟩ => rfl
    | ⟨1, _⟩ => rfl
  rw [hw0, hs0, hw1, hs1, Fin.ext_iff]
  omega

/-- The accumulation of real numbers into a vector of zeros: at `n` the sum over the edges that end in `n`. -/
theorem acc_up {N E : ℕ} (d : ScatterDims ⟨1, ![N]⟩ ⟨2, ![E, 1]⟩ ⟨1, ![E]⟩) (hd : ∃ wf, d = ⟨[], [0], [0], 1, wf⟩)
    (x : FVec Ideal ⟨1, ![N]⟩ .f32) (hx : ∀ n, x n = 0) (idx : IVec ⟨2, ![E, 1]⟩ 32) (l : Fin E → Option (Fin N))
    (hl : Lands idx l) (u : Fin E → ℝ) :
    Host.scatterAdd d x idx (up1 u) = up1 (fun n => ∑ e with l e = some n, u e) := by
  refine ext1 fun n => ?_
  show Ideal.hostScatterAdd d x idx (up1 u) (ix1 n) = _
  unfold Ideal.hostScatterAdd
  rw [hx, zero_add, up1_ix, coe_sum]
  have key : ∀ e, d.resultIdx? (ix1 e) idx = some (ix1 n) ↔ l e = some n := fun e => by
    rw [lands1 d hd, hl e n]
  refine (Finset.sum_bij (fun (e : Fin E) _ => ix1 e) (fun e he => ?_) (fun e _ e' _ q => congrFun q 0)
    (fun i hi => ?_) (fun e _ => rfl)).symm
  · exact Finset.mem_filter.2 ⟨Finset.mem_univ _, (key e).2 (Finset.mem_filter.1 he).2⟩
  · refine ⟨i 0, Finset.mem_filter.2 ⟨Finset.mem_univ _, (key _).1 ?_⟩, (eq_ix1 i).symm⟩
    have := (Finset.mem_filter.1 hi).2
    rwa [eq_ix1 i] at this

/-- The accumulation of real rows into a matrix of zeros: at `(n, c)` the sum over the edges that end in `n`. -/
theorem accRows_up {N C E : ℕ} (d : ScatterDims ⟨2, ![N, C]⟩ ⟨2, ![E, 1]⟩ ⟨2, ![E, C]⟩) (hd : ∃ wf, d = ⟨[1], [0], [0], 1, wf⟩)
    (x : FVec Ideal ⟨2, ![N, C]⟩ .f32) (hx : ∀ n, x n = 0) (idx : IVec ⟨2, ![E, 1]⟩ 32) (l : Fin E → Option (Fin N))
    (hl : Lands idx l) (u : Fin E → Fin C → ℝ) :
    Host.scatterAdd d x idx (up2 u) = up2 (fun n c => ∑ e with l e = some n, u e c) := by
  refine ext2 fun n c => ?_
  show Ideal.hostScatterAdd d x idx (up2 u) (ix2 n c) = _
  unfold Ideal.hostScatterAdd
  rw [hx, zero_add, up2_ix, coe_sum]
  have key : ∀ e c', d.resultIdx? (ix2 e c') idx = some (ix2 n c) ↔ l e = some n ∧ c' = c := fun e c' => by
    rw [lands2 d hd, hl e n]
  refine (Finset.sum_bij (fun (e : Fin E) _ => ix2 e c) (fun e he => ?_) (fun e _ e' _ q => congrFun q 0)
    (fun i hi => ?_) (fun e _ => rfl)).symm
  · exact Finset.mem_filter.2 ⟨Finset.mem_univ _, (key e c).2 ⟨(Finset.mem_filter.1 he).2, rfl⟩⟩
  · have hi' := (Finset.mem_filter.1 hi).2
    rw [eq_ix2 i] at hi'
    have hk := (key _ _).1 hi'
    refine ⟨i 0, Finset.mem_filter.2 ⟨Finset.mem_univ _, hk.1⟩, ?_⟩
    rw [← hk.2]
    exact (eq_ix2 i).symm

end Gat

end
-- ==== Proof.Elementwise.lean ====
/- The elementwise operations and the printed constants on arrays of real numbers, the index columns the programs build from
   the edge list, and the maximum per node that the reference shifts its exponentials by. -/
module

public import proofs.«01_k».proof.Proof.Lift
public import Idealize.ShloMosaic.PureOps.Ideal.Laws
public import Idealize.ShloMosaic.Lib.Affine

@[expose] public section

noncomputable section

open scoped BigOperators

namespace Gat

open Idealize.ShloMosaic Idealize.ShloMosaic.ValueIdx

/-! ## The printed constants -/

/-- The slope of the leaky rectifier: the single-precision number nearest to 1/5. -/
def slope : ℝ := 13421773 / 2 ^ 26

/-- The guard of the divisions: the single-precision number nearest to a billionth. -/
def guard : ℝ := 9007199 / 2 ^ 53

theorem slope_nonneg : 0 ≤ slope := by unfold slope; norm_num

theorem slope_le : slope ≤ 201 / 1000 := by unfold slope; norm_num

theorem guard_pos : 0 < guard := by unfold guard; norm_num

theorem guard_le : guard ≤ 1 / 2 ^ 29 := by unfold guard; norm_num

theorem guard_le_one : guard ≤ 1 := by unfold guard; norm_num

/-- The slope's pattern denotes `slope`. -/
theorem ofBits_slope : Ideal.ofBits .f32 0x3E4CCCCD#32 = ((slope : ℝ) : EReal) := by
  simp [Ideal.ofBits, Ideal.ieee, slope]
  norm_cast

/-- The guard's pattern denotes `guard`. -/
theorem ofBits_guard : Ideal.ofBits .f32 0x3089705F#32 = ((guard : ℝ) : EReal) := by
  simp [Ideal.ofBits, Ideal.ieee, guard]
  norm_cast

/-- The pattern of infinity denotes the top element. -/
theorem ofBits_top : Ideal.ofBits .f32 0x7F800000#32 = (⊤ : EReal) := by
  simp [Ideal.ofBits, Ideal.ieee]

/-- The pattern of minus infinity denotes the bottom element. -/
theorem ofBits_bot : Ideal.ofBits .f32 0xFF800000#32 = (⊥ : EReal) := by
  simp [Ideal.ofBits, Ideal.ieee]

/-- The pattern of 30 denotes 30. -/
theorem ofBits_thirty : Ideal.ofBits .f32 0x41F00000#32 = ((30 : ℝ) : EReal) := by
  simp [Ideal.ofBits, Ideal.ieee]
  norm_cast
  norm_num [zpow_neg]

/-- A constant repeated over an array is its number at every index. -/
theorem spread_const {t : Shape} (h : (⟨0, ![]⟩ : Shape).BroadcastsInDim t ![]) (w : BitVec 32) (i : t.Idx) :
    broadcastInDim (α := Ideal .f32) t ![] h (constant (⟨0, ![]⟩ : Shape) .f32 w) i = Ideal.ofBits .f32 w := rfl

/-! ## Elementwise operations -/

theorem add1_up {a : ℕ} (f g : Fin a → ℝ) : addf (up1 f) (up1 g) = up1 (fun i => f i + g i) :=
  funext fun _ => (EReal.coe_add _ _).symm

theorem add2_up {a b : ℕ} (f g : Fin a → Fin b → ℝ) : addf (up2 f) (up2 g) = up2 (fun i j => f i j + g i j) :=
  funext fun _ => (EReal.coe_add _ _).symm

theorem sub1_up {a : ℕ} (f g : Fin a → ℝ) : subf (up1 f) (up1 g) = up1 (fun i => f i - g i) :=
  funext fun _ => (EReal.coe_sub _ _).symm

theorem mul1_up {a : ℕ} (f g : Fin a → ℝ) : mulf (up1 f) (up1 g) = up1 (fun i => f i * g i) :=
  funext fun _ => (EReal.coe_mul _ _).symm

theorem mul2_up {a b : ℕ} (f g : Fin a → Fin b → ℝ) : mulf (up2 f) (up2 g) = up2 (fun i j => f i j * g i j) :=
  funext fun _ => (EReal.coe_mul _ _).symm

theorem exp1_up {a : ℕ} (f : Fin a → ℝ) : Host.exp (up1 f) = up1 (fun i => Real.exp (f i)) :=
  funext fun _ => Ideal.exp_coe _

/-- The larger of a real and the guard. -/
theorem max1_up {a : ℕ} (f : Fin a → ℝ) (h : (⟨0, ![]⟩ : Shape).BroadcastsInDim ⟨1, ![a]⟩ ![]) :
    maximumf (up1 f) (broadcastInDim _ ![] h (constant (⟨0, ![]⟩ : Shape) .f32 0x3089705F#32)) = up1 (fun i => max (f i) guard) := by
  funext i
  show max ((f (i 0) : ℝ) : EReal) (Ideal.ofBits .f32 0x3089705F#32) = _
  rw [ofBits_guard, ← coe_max]
  rfl

/-- A quotient of real vectors, no divisor zero. -/
theorem div1_up {a : ℕ} (f g : Fin a → ℝ) (h : ∀ i, g i ≠ 0) : Host.divf (up1 f) (up1 g) = up1 (fun i => f i / g i) :=
  funext fun i => coe_div (h _)

/-- The leaky rectifier as the programs write it: a comparison with zero, and a choice between the number and its multiple. -/
theorem leaky_up {a : ℕ} (f : Fin a → ℝ) (h : (⟨0, ![]⟩ : Shape).BroadcastsInDim ⟨1, ![a]⟩ ![]) :
    select (cmpf .ogt (up1 f) (broadcastInDim _ ![] h (constant (⟨0, ![]⟩ : Shape) .f32 0x00000000#32))) (up1 f)
        (mulf (broadcastInDim _ ![] h (constant (⟨0, ![]⟩ : Shape) .f32 0x3E4CCCCD#32)) (up1 f))
      = up1 (fun i => leaky slope (f i)) := by
  funext i
  show Scalar.select (Ideal.cmp .ogt ((f (i 0) : ℝ) : EReal) (Ideal.ofBits .f32 0x00000000#32)) ((f (i 0) : ℝ) : EReal)
    (Ideal.ofBits .f32 0x3E4CCCCD#32 * ((f (i 0) : ℝ) : EReal)) = ((leaky slope (f (i 0)) : ℝ) : EReal)
  rw [Ideal.ofBits_zero_f32, ofBits_slope, ← EReal.coe_mul]
  unfold Scalar.select leaky Ideal.cmp
  by_cases hp : 0 < f (i 0)
  · simp [hp]
  · simp [hp]

/-! ## The bias -/

/-- A real matrix plus a vector of any extended reals, repeated down the rows. -/
def biased {A B : ℕ} (f : Fin A → Fin B → ℝ) (b : FVec Ideal ⟨1, ![B]⟩ .f32) : FVec Ideal ⟨2, ![A, B]⟩ .f32 := fun i =>
  ((f (i 0) (i 1) : ℝ) : EReal) + (b (ix1 (i 1)) : EReal)

/-- The hyperbolic tangent of any extended real is a real number. -/
theorem tanh_real (x : EReal) : (((Ideal.tanh x).toReal : ℝ) : EReal) = Ideal.tanh x := by
  induction x with
  | bot => rfl
  | top => rfl
  | coe r => rfl

/-- The hyperbolic tangent of any extended real lies within one. -/
theorem abs_tanh_le (x : EReal) : |(Ideal.tanh x).toReal| ≤ 1 := by
  induction x with
  | bot => show |(-1 : EReal).toReal| ≤ 1; simp
  | top => show |(1 : EReal).toReal| ≤ 1; simp
  | coe r => exact abs_le.2 ⟨(Real.neg_one_lt_tanh r).le, (Real.tanh_lt_one r).le⟩

/-- The hyperbolic tangents of a real matrix plus a bias, as real numbers. -/
def squashed {A B : ℕ} (f : Fin A → Fin B → ℝ) (b : FVec Ideal ⟨1, ![B]⟩ .f32) (i : Fin A) (j : Fin B) : ℝ :=
  (Ideal.tanh (biased f b (ix2 i j))).toReal

/-- The host's hyperbolic tangent of a real matrix plus a bias. -/
theorem tanh_biased {A B : ℕ} (f : Fin A → Fin B → ℝ) (b : FVec Ideal ⟨1, ![B]⟩ .f32) :
    Host.tanh (biased f b) = up2 (squashed f b) :=
  ext2 fun i j => (tanh_real (biased f b (ix2 i j))).symm

/-! ## The index columns -/

/-- A negative word wrapped round, as an array look-up is written. -/
def wrapped (N : ℕ) (w : BitVec 32) : BitVec 32 := Scalar.select (IntOp.cmpi .slt w 0#32) (IntOp.addi w (BitVec.ofNat 32 N)) w

/-- Look-ups at the words of `x` read the nodes `t e`: the words wrapped round and held to the range `0 … N - 1`. -/
def Names {E N : ℕ} (x : IVec ⟨1, ![E]⟩ 32) (t : Fin E → Fin N) : Prop :=
  ∀ e, (t e).val = min (wrapped N (x (ix1 e))).toInt.toNat (N - 1)

/-- Accumulations at the words of `x` go to the nodes `l e`, or nowhere. -/
def Ends {E N : ℕ} (x : IVec ⟨1, ![E]⟩ 32) (l : Fin E → Option (Fin N)) : Prop :=
  ∀ e n, (x (ix1 e)).toInt = ((n : Fin N).val : Int) ↔ l e = some n

/-- The wrapped words as a column are the column of the look-ups. -/
theorem Names.look {E N : ℕ} {x : IVec ⟨1, ![E]⟩ 32} {t : Fin E → Fin N} (h : Names x t)
    (hb : (⟨1, ![E]⟩ : Shape).BroadcastsInDim ⟨2, ![E, 1]⟩ ![0]) (z y : IVec ⟨1, ![E]⟩ 32) (hz : ∀ i, z i = 0#32)
    (hy : ∀ i, y i = BitVec.ofNat 32 N) : Holds (broadcastInDim ⟨2, ![E, 1]⟩ ![0] hb (select (cmpi .slt x z) (addi x y) x)) t := fun e => by
  rw [as_col hb _ e 0, h e]
  show _ = min (Scalar.select (IntOp.cmpi .slt (x (ix1 e)) (z (ix1 e))) (IntOp.addi (x (ix1 e)) (y (ix1 e))) (x (ix1 e))).toInt.toNat (N - 1)
  rw [hz, hy]
  rfl

/-- The words as a column are the column of the accumulations. -/
theorem Ends.col {E N : ℕ} {x : IVec ⟨1, ![E]⟩ 32} {l : Fin E → Option (Fin N)} (h : Ends x l)
    (hb : (⟨1, ![E]⟩ : Shape).BroadcastsInDim ⟨2, ![E, 1]⟩ ![0]) : Lands (broadcastInDim ⟨2, ![E, 1]⟩ ![0] hb x) l := fun e n => by
  rw [as_col hb x e 0]
  exact h e n

/-- Every vector of words has its look-ups. -/
theorem names_of {E N : ℕ} (hN : 0 < N) (x : IVec ⟨1, ![E]⟩ 32) : ∃ t : Fin E → Fin N, Names x t :=
  ⟨fun e => ⟨min (wrapped N (x (ix1 e))).toInt.toNat (N - 1), by omega⟩, fun _ => rfl⟩

/-- Every vector of words has its accumulations. -/
theorem ends_of {E N : ℕ} (x : IVec ⟨1, ![E]⟩ 32) : ∃ l : Fin E → Option (Fin N), Ends x l := by
  classical
  refine ⟨fun e => if h : ∃ n : Fin N, (x (ix1 e)).toInt = (n.val : Int) then some h.choose else none, fun e n => ?_⟩
  by_cases h : ∃ n : Fin N, (x (ix1 e)).toInt = (n.val : Int)
  · simp only [dif_pos h, Option.some.injEq]
    exact ⟨fun hn => Fin.ext (by have := h.choose_spec; omega), fun hn => by rw [← hn]; exact h.choose_spec⟩
  · simp only [dif_neg h]
    exact ⟨fun hn => absurd ⟨n, hn⟩ h, fun hn => nomatch hn⟩

/-- Where an accumulation goes to a node, the look-up at the same word reads that node. -/
theorem Names.of_ends {E N : ℕ} {x : IVec ⟨1, ![E]⟩ 32} {t : Fin E → Fin N} {l : Fin E → Option (Fin N)} (ht : Names x t)
    (hl : Ends x l) (e : Fin E) (n : Fin N) (h : l e = some n) : t e = n := by
  have hi := (hl e n).2 h
  have hneg : ¬ (x (ix1 e)).toInt < (0#32 : BitVec 32).toInt := by
    rw [hi, show (0#32 : BitVec 32).toInt = 0 by decide]; omega
  have hw : wrapped N (x (ix1 e)) = x (ix1 e) := by
    unfold wrapped Scalar.select
    exact if_neg (mt IntOp.cmpi_slt.1 hneg)
  refine Fin.ext ?_
  rw [ht e, hw, hi, Int.toNat_natCast]
  have := n.isLt
  omega

/-! ## The maximum per node -/

/-- A maximum over finitely many extended reals, starting from the bottom, is the bottom or one of them. -/
theorem fold_max_attained {ι : Type} (s : Finset ι) (f : ι → EReal) :
    s.fold max ⊥ f = ⊥ ∨ ∃ i ∈ s, s.fold max ⊥ f = f i := by
  classical
  induction s using Finset.induction_on with
  | empty => exact Or.inl rfl
  | insert a s ha ih =>
    rw [Finset.fold_insert ha]
    rcases le_total (f a) (s.fold max ⊥ f) with h | h
    · rw [max_eq_right h]
      rcases ih with h' | ⟨i, hi, h'⟩
      · exact Or.inl h'
      · exact Or.inr ⟨i, Finset.mem_insert_of_mem hi, h'⟩
    · rw [max_eq_left h]
      exact Or.inr ⟨a, Finset.mem_insert_self _ _, rfl⟩

/-- THE MASKED MAXIMUM: a matrix that holds `z e` at `(e, n)` where edge `e` ends in node `n`, and the bottom elsewhere. Its
    maximum down the column of a node that has an edge is `z e'` for one of the node's edges, and the bottom down the other columns. -/
theorem colMax_attained {E N : ℕ} (h' : (⟨2, ![E, N]⟩ : Shape).ReducesTo [0] ⟨1, ![N]⟩) (hu : 0 < (⟨0, ![]⟩ : Shape).numel)
    (x : FVec Ideal ⟨2, ![E, N]⟩ .f32) (l : Fin E → Option (Fin N)) (z : Fin E → ℝ)
    (hx : ∀ e n, x (ix2 e n) = if l e = some n then ((z e : ℝ) : EReal) else ⊥) (n : Fin N) :
    ((∀ e, l e ≠ some n) ∧ Host.reduce FloatOps.maximumf x (constant (⟨0, ![]⟩ : Shape) .f32 0xFF800000#32) h' hu (ix1 n) = ⊥)
      ∨ ∃ e', l e' = some n ∧ Host.reduce FloatOps.maximumf x (constant (⟨0, ![]⟩ : Shape) .f32 0xFF800000#32) h' hu (ix1 n)
        = ((z e' : ℝ) : EReal) := by
  have hfold : Host.reduce FloatOps.maximumf x (constant (⟨0, ![]⟩ : Shape) .f32 0xFF800000#32) h' hu (ix1 n)
      = (Finset.univ.filter fun i => h'.drop i = ix1 n).fold max ⊥ x := by
    rw [Host.reduce_eq_fold]
    show Finset.fold max (Ideal.ofBits .f32 0xFF800000#32) x _ = _
    rw [ofBits_bot]
  have hv : ∀ i : (⟨2, ![E, N]⟩ : Shape).Idx, (h'.drop i 0).val = (i 1).val := fun i =>
    h'.drop_apply_val_of_eq i 0 1 Nat.one_pos rfl
  rw [hfold]
  have hge : ∀ e, l e = some n → ((z e : ℝ) : EReal) ≤ (Finset.univ.filter fun i => h'.drop i = ix1 n).fold max ⊥ x := fun e he => by
    refine Finset.le_fold_max _ |>.2 (Or.inr ⟨ix2 e n, Finset.mem_filter.2 ⟨Finset.mem_univ _, funext fun a => ?_⟩, ?_⟩)
    · obtain rfl : a = 0 := Subsingleton.elim _ _
      exact Fin.ext (hv _)
    · rw [hx, if_pos he]
  have hbot : (Finset.univ.filter fun i => h'.drop i = ix1 n).fold max ⊥ x = ⊥ → ∀ e, l e ≠ some n := fun hb e he => by
    have h := hge e he
    rw [hb] at h
    exact absurd (le_bot_iff.1 h) (EReal.coe_ne_bot _)
  rcases fold_max_attained (Finset.univ.filter fun i => h'.drop i = ix1 n) x with hb | ⟨i, hi, hq⟩
  · exact Or.inl ⟨hbot hb, hb⟩
  · have h1 : i 1 = n := by
      have h0 := congrArg Fin.val (congrFun (Finset.mem_filter.1 hi).2 0)
      rw [hv] at h0
      exact Fin.ext h0
    have hq := hq.trans ((congrArg x (eq_ix2 i)).trans (hx (i 0) (i 1)))
    rw [h1] at hq
    by_cases hd : l (i 0) = some n
    · rw [if_pos hd] at hq
      exact Or.inr ⟨i 0, hd, hq⟩
    · rw [if_neg hd] at hq
      exact Or.inl ⟨hbot hq, hq⟩

/-- The choice that replaces an infinite maximum by zero keeps a real one. -/
theorem finite_kept {s : Shape} (m y : FVec Ideal s .f32) (h : (⟨0, ![]⟩ : Shape).BroadcastsInDim s ![]) (i : s.Idx) (r : ℝ)
    (hm : m i = ((r : ℝ) : EReal)) :
    select (cmpf .olt (Host.absf m) (broadcastInDim s ![] h (constant (⟨0, ![]⟩ : Shape) .f32 0x7F800000#32))) m y i = ((r : ℝ) : EReal) := by
  show Scalar.select (Ideal.cmp .olt (max (m i) (-(m i))) (Ideal.ofBits .f32 0x7F800000#32)) (m i) (y i) = _
  rw [hm, ofBits_top, ← EReal.coe_neg, ← coe_max]
  unfold Scalar.select Ideal.cmp
  simp [EReal.coe_lt_top]

/-- The choice that replaces an infinite maximum by zero replaces the bottom. -/
theorem bot_replaced {s : Shape} (m y : FVec Ideal s .f32) (h : (⟨0, ![]⟩ : Shape).BroadcastsInDim s ![]) (i : s.Idx)
    (hm : m i = (⊥ : EReal)) :
    select (cmpf .olt (Host.absf m) (broadcastInDim s ![] h (constant (⟨0, ![]⟩ : Shape) .f32 0x7F800000#32))) m y i = y i := by
  show Scalar.select (Ideal.cmp .olt (max (m i) (-(m i))) (Ideal.ofBits .f32 0x7F800000#32)) (m i) (y i) = _
  rw [hm, ofBits_top]
  unfold Scalar.select Ideal.cmp
  simp

end Gat

end
-- ==== Proof.Read.lean ====
/- What the conditions of the precondition say of the arrays once they are read back: which arrays hold real numbers, and
   which sums stay within thirty. -/
module

public import proofs.«01_k».proof.Proof.Layer
public import proofs.«01_k».proof.Proof.Elementwise
public import Idealize.ShloMosaic.Lib.ReduceAll

@[expose] public section

noncomputable section

open scoped BigOperators

namespace Gat

open Idealize.ShloMosaic Idealize.ShloMosaic.ValueIdx

/-! ## Arrays of real numbers -/

/-- A number whose absolute value is below infinity is real. -/
theorem real_of_abs_lt {x : EReal} (h : max x (-x) < ⊤) : ((x.toReal : ℝ) : EReal) = x := by
  refine EReal.coe_toReal (fun e => ?_) (fun e => ?_)
  · rw [e] at h; simp at h
  · rw [e] at h; simp at h

/-- A strict comparison that came out true. -/
theorem lt_of_cmp {x y : EReal} (h : Ideal.cmp .olt x y = 1#1) : x < y := by
  unfold Ideal.cmp at h
  by_contra hn
  simp [hn] at h

/-- A weak comparison that came out true. -/
theorem le_of_cmp {x y : EReal} (h : Ideal.cmp .ole x y = 1#1) : x ≤ y := by
  unfold Ideal.cmp at h
  by_contra hn
  simp [hn] at h

instance oneIndex : Subsingleton (⟨0, ![]⟩ : Shape).Idx := ⟨fun _ _ => funext fun a => a.elim0⟩

section Finite

variable {s : Shape} {axes : List (Fin s.rank)}

/-- Every entry of an array that passed the test for finiteness is real. -/
theorem entry_real (x : FVec Ideal s .f32) (hb : (⟨0, ![]⟩ : Shape).BroadcastsInDim s ![]) (init : IVec (⟨0, ![]⟩ : Shape) 1)
    (h : s.ReducesTo axes ⟨0, ![]⟩) (hu : 0 < (⟨0, ![]⟩ : Shape).numel) (j : (⟨0, ![]⟩ : Shape).Idx)
    (e : Host.reduce IntOp.andi (cmpf .olt (Host.absf x) (broadcastInDim s ![] hb (constant (⟨0, ![]⟩ : Shape) .f32 0x7F800000#32)))
      init h hu j = 1#1) (i : s.Idx) : (((x i : EReal).toReal : ℝ) : EReal) = x i := by
  have h1 := Host.reduce_andi_all _ init h hu j e i
  have h2 : Ideal.cmp .olt (max (x i : EReal) (-(x i : EReal))) (Ideal.ofBits .f32 0x7F800000#32) = 1#1 := h1
  rw [ofBits_top] at h2
  exact real_of_abs_lt (lt_of_cmp h2)

end Finite

/-- A vector that passed the test for finiteness is a vector of reals. -/
theorem real1 {a : ℕ} {axes : List (Fin 1)} (x : FVec Ideal ⟨1, ![a]⟩ .f32) (hb : (⟨0, ![]⟩ : Shape).BroadcastsInDim ⟨1, ![a]⟩ ![])
    (init : IVec (⟨0, ![]⟩ : Shape) 1) (h : (⟨1, ![a]⟩ : Shape).ReducesTo axes ⟨0, ![]⟩) (hu : 0 < (⟨0, ![]⟩ : Shape).numel)
    (j : (⟨0, ![]⟩ : Shape).Idx)
    (e : Host.reduce IntOp.andi (cmpf .olt (Host.absf x) (broadcastInDim ⟨1, ![a]⟩ ![] hb (constant (⟨0, ![]⟩ : Shape) .f32 0x7F800000#32)))
      init h hu j = 1#1) : ∃ f, x = up1 f :=
  ⟨fun i => (x (ix1 i) : EReal).toReal, ext1 fun i => (entry_real x hb init h hu j e (ix1 i)).symm⟩

/-- A matrix that passed the test for finiteness is a matrix of reals. -/
theorem real2 {a b : ℕ} {axes : List (Fin 2)} (x : FVec Ideal ⟨2, ![a, b]⟩ .f32)
    (hb : (⟨0, ![]⟩ : Shape).BroadcastsInDim ⟨2, ![a, b]⟩ ![]) (init : IVec (⟨0, ![]⟩ : Shape) 1)
    (h : (⟨2, ![a, b]⟩ : Shape).ReducesTo axes ⟨0, ![]⟩) (hu : 0 < (⟨0, ![]⟩ : Shape).numel) (j : (⟨0, ![]⟩ : Shape).Idx)
    (e : Host.reduce IntOp.andi (cmpf .olt (Host.absf x) (broadcastInDim ⟨2, ![a, b]⟩ ![] hb (constant (⟨0, ![]⟩ : Shape) .f32 0x7F800000#32)))
      init h hu j = 1#1) : ∃ f, x = up2 f :=
  ⟨fun p q => (x (ix2 p q) : EReal).toReal, ext2 fun p q => (entry_real x hb init h hu j e (ix2 p q)).symm⟩

/-! ## Bounds -/

/-- The absolute values of a vector of reals. -/
theorem abs1_up {a : ℕ} (f : Fin a → ℝ) : Host.absf (up1 f) = up1 (fun i => |f i|) := ext1 fun i => by
  show max ((f i : ℝ) : EReal) (-((f i : ℝ) : EReal)) = ((|f i| : ℝ) : EReal)
  rw [← EReal.coe_neg, ← coe_max]
  rfl

/-- The absolute values of a matrix of reals. -/
theorem abs2_up {a b : ℕ} (f : Fin a → Fin b → ℝ) : Host.absf (up2 f) = up2 (fun i j => |f i j|) := ext2 fun i j => by
  show max ((f i j : ℝ) : EReal) (-((f i j : ℝ) : EReal)) = ((|f i j| : ℝ) : EReal)
  rw [← EReal.coe_neg, ← coe_max]
  rfl

/-- The host's product of a matrix of reals and a vector of reals. -/
theorem mv_up {M K : ℕ} (d : DotDims ⟨2, ![M, K]⟩ ⟨1, ![K]⟩ ⟨1, ![M]⟩) (hd : ∃ wf, d = ⟨[1], [0], [0], [], [], [], wf⟩)
    (x : Fin M → Fin K → ℝ) (v : Fin K → ℝ) : Host.dotGeneral d none (up2 x) (up1 v) = up1 (mv x v) := by
  obtain ⟨wf, rfl⟩ := hd
  refine ext1 fun r => ?_
  simp only [Host.dotGeneral]
  rw [Ideal.dotGeneral_apply, ← Equiv.sum_comp (contrEquiv1 _ K rfl rfl).symm, up1_ix, mv, coe_sum]
  refine Finset.sum_congr rfl fun k _ => ?_
  rw [EReal.coe_mul]
  congr 1

/-- The host's sum of a vector of reals. -/
theorem total_up {a : ℕ} (h : (⟨1, ![a]⟩ : Shape).ReducesTo [0] ⟨0, ![]⟩) (hu : 0 < (⟨0, ![]⟩ : Shape).numel) (f : Fin a → ℝ)
    (j : (⟨0, ![]⟩ : Shape).Idx) :
    Host.reduceAdd (up1 f) (constant (⟨0, ![]⟩ : Shape) .f32 0x00000000#32) h hu j = ((∑ i, f i : ℝ) : EReal) := by
  rw [hostReduceAdd_apply]
  unfold Ideal.hostReduceAdd
  show Ideal.ofBits .f32 0x00000000#32 + _ = _
  rw [Ideal.ofBits_zero_f32, zero_add, coe_sum]
  refine (Finset.sum_bij (fun (i : Fin a) _ => (ix1 i : (⟨1, ![a]⟩ : Shape).Idx)) (fun i _ => ?_) (fun i _ i' _ e => congrFun e 0)
    (fun i _ => ⟨i 0, Finset.mem_univ _, (eq_ix1 i).symm⟩) (fun _ _ => rfl)).symm
  exact Finset.mem_filter.2 ⟨Finset.mem_univ _, funext fun b => b.elim0⟩

/-- The bound on every entry of a product of absolute values, read back: row by row the sum stays within thirty. -/
theorem rows_le {M K C : ℕ} {axes : List (Fin 1)} (d : DotDims ⟨2, ![M, K]⟩ ⟨1, ![K]⟩ ⟨1, ![M]⟩)
    (hd : ∃ wf, d = ⟨[1], [0], [0], [], [], [], wf⟩) (d' : DotDims ⟨2, ![K, C]⟩ ⟨1, ![C]⟩ ⟨1, ![K]⟩)
    (hd' : ∃ wf, d' = ⟨[1], [0], [0], [], [], [], wf⟩) (x : Fin M → Fin K → ℝ) (W : Fin K → Fin C → ℝ) (v : Fin C → ℝ)
    (hb : (⟨0, ![]⟩ : Shape).BroadcastsInDim ⟨1, ![M]⟩ ![]) (init : IVec (⟨0, ![]⟩ : Shape) 1)
    (h : (⟨1, ![M]⟩ : Shape).ReducesTo axes ⟨0, ![]⟩) (hu : 0 < (⟨0, ![]⟩ : Shape).numel) (j : (⟨0, ![]⟩ : Shape).Idx)
    (e : Host.reduce IntOp.andi (cmpf .ole (Host.dotGeneral d none (Host.absf (up2 x)) (Host.absf (Host.dotGeneral d' none (up2 W) (up1 v))))
      (broadcastInDim ⟨1, ![M]⟩ ![] hb (constant (⟨0, ![]⟩ : Shape) .f32 0x41F00000#32))) init h hu j = 1#1) (n : Fin M) :
    ∑ k, |x n k| * |mv W v k| ≤ 30 := by
  rw [mv_up d' hd', abs1_up, abs2_up, mv_up d hd] at e
  have h1 := Host.reduce_andi_all _ init h hu j e (ix1 n)
  have h2 : Ideal.cmp .ole ((mv (fun i j => |x i j|) (fun k => |mv W v k|) n : ℝ) : EReal) (Ideal.ofBits .f32 0x41F00000#32) = 1#1 := h1
  rw [ofBits_thirty] at h2
  exact EReal.coe_le_coe_iff.1 (le_of_cmp h2)

/-- The bound on the sum of the absolute values of a product, read back. -/
theorem total_le {K C : ℕ} (d : DotDims ⟨2, ![K, C]⟩ ⟨1, ![C]⟩ ⟨1, ![K]⟩) (hd : ∃ wf, d = ⟨[1], [0], [0], [], [], [], wf⟩)
    (W : Fin K → Fin C → ℝ) (v : Fin C → ℝ) (h : (⟨1, ![K]⟩ : Shape).ReducesTo [0] ⟨0, ![]⟩) (hu : 0 < (⟨0, ![]⟩ : Shape).numel)
    (j : (⟨0, ![]⟩ : Shape).Idx)
    (e : cmpf .ole (Host.reduceAdd (Host.absf (Host.dotGeneral d none (up2 W) (up1 v))) (constant (⟨0, ![]⟩ : Shape) .f32 0x00000000#32) h hu)
      (constant (⟨0, ![]⟩ : Shape) .f32 0x41F00000#32) j = 1#1) : ∑ k, |mv W v k| ≤ 30 := by
  rw [mv_up d hd, abs1_up] at e
  have h2 : Ideal.cmp .ole (Host.reduceAdd (up1 fun k => |mv W v k|) (constant (⟨0, ![]⟩ : Shape) .f32 0x00000000#32) h hu j : EReal)
    (Ideal.ofBits .f32 0x41F00000#32) = 1#1 := e
  rw [ofBits_thirty, total_up] at h2
  exact EReal.coe_le_coe_iff.1 (le_of_cmp h2)

/-- Entries within one against such a vector stay within thirty. -/
theorem rows_le_of_total {M K C : ℕ} (x : Fin M → Fin K → ℝ) (hx : ∀ n k, |x n k| ≤ 1) (W : Fin K → Fin C → ℝ) (v : Fin C → ℝ)
    (h : ∑ k, |mv W v k| ≤ 30) (n : Fin M) : ∑ k, |x n k| * |mv W v k| ≤ 30 :=
  (Finset.sum_le_sum fun k _ => mul_le_of_le_one_left (abs_nonneg _) (hx n k)).trans h

end Gat

end
-- ==== Proof.Pre.lean ====
/- The precondition read back: the arguments it speaks of are arrays of real numbers, and the logits' sums stay within thirty. -/
module

public import proofs.«01_k».proof.Proof.Read
public import proofs.«01_k».proof.Proof.Gen.Pre_moderate

@[expose] public section

noncomputable section

open scoped BigOperators

namespace Gat

open Idealize.ShloMosaic Idealize.ShloMosaic.ValueIdx Cert.Pre_moderate Cert.Pre_moderate.Gen

/-- The parameters of one layer but its bias, as real numbers. -/
structure Params where
  W : Fin 128 → Fin 128 → ℝ
  We : Fin 16 → Fin 128 → ℝ
  al : Fin 128 → ℝ
  ar : Fin 128 → ℝ
  ae : Fin 128 → ℝ

/-- Five arrays hold the parameters of one layer. -/
structure Params.Held (p : Params) (W : FVec Ideal S128x128 .f32) (We : FVec Ideal S16x128 .f32) (al ar ae : FVec Ideal S128 .f32) : Prop where
  hW : W = up2 p.W
  hWe : We = up2 p.We
  hal : al = up1 p.al
  har : ar = up1 p.ar
  hae : ae = up1 p.ae

/-- What the precondition says: real arrays `x`, `ein` and three sets of parameters, and the bounds. The
    first layer's node bounds are taken at the node features; the later layers read entries within one. -/
structure Reads (a0 : FVec Ideal S10000x128 .f32) (a1 : IVec S2x320000 32) (a2 : FVec Ideal S320000x16 .f32)
    (a3 : FVec Ideal S128x128 .f32) (a4 : FVec Ideal S16x128 .f32) (a5 a6 a7 a8 : FVec Ideal S128 .f32)
    (a9 : FVec Ideal S128x128 .f32) (a10 : FVec Ideal S16x128 .f32) (a11 a12 a13 a14 : FVec Ideal S128 .f32)
    (a15 : FVec Ideal S128x128 .f32) (a16 : FVec Ideal S16x128 .f32) (a17 a18 a19 a20 : FVec Ideal S128 .f32)
    (x : Fin 10000 → Fin 128 → ℝ) (ein : Fin 320000 → Fin 16 → ℝ) (p q r : Params) : Prop where
  features : a0 = up2 x
  edges : a2 = up2 ein
  held_p : p.Held a3 a4 a5 a6 a7
  held_q : q.Held a9 a10 a11 a12 a13
  held_r : r.Held a15 a16 a17 a18 a19
  edge_p : ∀ e, ∑ k, |ein e k| * |mv p.We p.ae k| ≤ 30
  edge_q : ∀ e, ∑ k, |ein e k| * |mv q.We q.ae k| ≤ 30
  edge_r : ∀ e, ∑ k, |ein e k| * |mv r.We r.ae k| ≤ 30
  left_p : ∀ n, ∑ k, |x n k| * |mv p.W p.al k| ≤ 30
  right_p : ∀ n, ∑ k, |x n k| * |mv p.W p.ar k| ≤ 30
  left_q : ∑ k, |mv q.W q.al k| ≤ 30
  right_q : ∑ k, |mv q.W q.ar k| ≤ 30
  left_r : ∑ k, |mv r.W r.al k| ≤ 30
  right_r : ∑ k, |mv r.W r.ar k| ≤ 30

/-- The precondition holds only of such arguments. -/
theorem moderate_reads (a0 : FVec Ideal S10000x128 .f32) (a1 : IVec S2x320000 32) (a2 : FVec Ideal S320000x16 .f32)
    (a3 : FVec Ideal S128x128 .f32) (a4 : FVec Ideal S16x128 .f32) (a5 a6 a7 a8 : FVec Ideal S128 .f32)
    (a9 : FVec Ideal S128x128 .f32) (a10 : FVec Ideal S16x128 .f32) (a11 a12 a13 a14 : FVec Ideal S128 .f32)
    (a15 : FVec Ideal S128x128 .f32) (a16 : FVec Ideal S16x128 .f32) (a17 a18 a19 a20 : FVec Ideal S128 .f32)
    (h : fn (F := Ideal) a0 a1 a2 a3 a4 a5 a6 a7 a8 a9 a10 a11 a12 a13 a14 a15 a16 a17 a18 a19 a20 = fun _ => 1#1) :
    ∃ x ein p q r, Reads a0 a1 a2 a3 a4 a5 a6 a7 a8 a9 a10 a11 a12 a13 a14 a15 a16 a17 a18 a19 a20 x ein p q r := by
  have c : fn (F := Ideal) a0 a1 a2 a3 a4 a5 a6 a7 a8 a9 a10 a11 a12 a13 a14 a15 a16 a17 a18 a19 a20 (fun a => a.elim0) = 1#1 := congrFun h _
  obtain ⟨c, c25⟩ := IntOp.andi_eq_one.1 c
  obtain ⟨c, c24⟩ := IntOp.andi_eq_one.1 c
  obtain ⟨c, c23⟩ := IntOp.andi_eq_one.1 c
  obtain ⟨c, c22⟩ := IntOp.andi_eq_one.1 c
  obtain ⟨c, c21⟩ := IntOp.andi_eq_one.1 c
  obtain ⟨c, c20⟩ := IntOp.andi_eq_one.1 c
  obtain ⟨c, c19⟩ := IntOp.andi_eq_one.1 c
  obtain ⟨c, c18⟩ := IntOp.andi_eq_one.1 c
  obtain ⟨c, c17⟩ := IntOp.andi_eq_one.1 c
  obtain ⟨c, c16⟩ := IntOp.andi_eq_one.1 c
  obtain ⟨c, c15⟩ := IntOp.andi_eq_one.1 c
  obtain ⟨c, c14⟩ := IntOp.andi_eq_one.1 c
  obtain ⟨c, c13⟩ := IntOp.andi_eq_one.1 c
  obtain ⟨c, c12⟩ := IntOp.andi_eq_one.1 c
  obtain ⟨c, c11⟩ := IntOp.andi_eq_one.1 c
  obtain ⟨c, c10⟩ := IntOp.andi_eq_one.1 c
  obtain ⟨c, c9⟩ := IntOp.andi_eq_one.1 c
  obtain ⟨c, c8⟩ := IntOp.andi_eq_one.1 c
  obtain ⟨c, c7⟩ := IntOp.andi_eq_one.1 c
  obtain ⟨c, c6⟩ := IntOp.andi_eq_one.1 c
  obtain ⟨c, c5⟩ := IntOp.andi_eq_one.1 c
  obtain ⟨c, c4⟩ := IntOp.andi_eq_one.1 c
  obtain ⟨c, c3⟩ := IntOp.andi_eq_one.1 c
  obtain ⟨c, c2⟩ := IntOp.andi_eq_one.1 c
  obtain ⟨c, c1⟩ := IntOp.andi_eq_one.1 c
  obtain ⟨x, rfl⟩ := real2 a0 _ _ _ _ _ c
  obtain ⟨ein, rfl⟩ := real2 a2 _ _ _ _ _ c1
  obtain ⟨W0, rfl⟩ := real2 a3 _ _ _ _ _ c2
  obtain ⟨V0, rfl⟩ := real2 a4 _ _ _ _ _ c3
  obtain ⟨al0, rfl⟩ := real1 a5 _ _ _ _ _ c4
  obtain ⟨ar0, rfl⟩ := real1 a6 _ _ _ _ _ c5
  obtain ⟨ae0, rfl⟩ := real1 a7 _ _ _ _ _ c6
  obtain ⟨W1, rfl⟩ := real2 a9 _ _ _ _ _ c8
  obtain ⟨V1, rfl⟩ := real2 a10 _ _ _ _ _ c9
  obtain ⟨al1, rfl⟩ := real1 a11 _ _ _ _ _ c10
  obtain ⟨ar1, rfl⟩ := real1 a12 _ _ _ _ _ c11
  obtain ⟨ae1, rfl⟩ := real1 a13 _ _ _ _ _ c12
  obtain ⟨W2, rfl⟩ := real2 a15 _ _ _ _ _ c14
  obtain ⟨V2, rfl⟩ := real2 a16 _ _ _ _ _ c15
  obtain ⟨al2, rfl⟩ := real1 a17 _ _ _ _ _ c16
  obtain ⟨ar2, rfl⟩ := real1 a18 _ _ _ _ _ c17
  obtain ⟨ae2, rfl⟩ := real1 a19 _ _ _ _ _ c18
  refine ⟨x, ein, ⟨W0, V0, al0, ar0, ae0⟩, ⟨W1, V1, al1, ar1, ae1⟩, ⟨W2, V2, al2, ar2, ae2⟩, rfl, rfl,
    ⟨rfl, rfl, rfl, rfl, rfl⟩, ⟨rfl, rfl, rfl, rfl, rfl⟩, ⟨rfl, rfl, rfl, rfl, rfl⟩, ?_, ?_, ?_, ?_, ?_, ?_, ?_, ?_, ?_⟩
  · exact rows_le dot_S320000x16_S16_S320000_1_0_0_n_n_n ⟨_, rfl⟩ dot_S16x128_S128_S16_1_0_0_n_n_n ⟨_, rfl⟩ ein V0 ae0 _ _ _ _ _ c7
  · exact rows_le dot_S320000x16_S16_S320000_1_0_0_n_n_n ⟨_, rfl⟩ dot_S16x128_S128_S16_1_0_0_n_n_n ⟨_, rfl⟩ ein V1 ae1 _ _ _ _ _ c13
  · exact rows_le dot_S320000x16_S16_S320000_1_0_0_n_n_n ⟨_, rfl⟩ dot_S16x128_S128_S16_1_0_0_n_n_n ⟨_, rfl⟩ ein V2 ae2 _ _ _ _ _ c19
  · exact rows_le dot_S10000x128_S128_S10000_1_0_0_n_n_n ⟨_, rfl⟩ dot_S128x128_S128_S128_1_0_0_n_n_n ⟨_, rfl⟩ x W0 al0 _ _ _ _ _ c20
  · exact rows_le dot_S10000x128_S128_S10000_1_0_0_n_n_n ⟨_, rfl⟩ dot_S128x128_S128_S128_1_0_0_n_n_n ⟨_, rfl⟩ x W0 ar0 _ _ _ _ _ c21
  · exact total_le dot_S128x128_S128_S128_1_0_0_n_n_n ⟨_, rfl⟩ W1 al1 _ _ _ c22
  · exact total_le dot_S128x128_S128_S128_1_0_0_n_n_n ⟨_, rfl⟩ W1 ar1 _ _ _ c23
  · exact total_le dot_S128x128_S128_S128_1_0_0_n_n_n ⟨_, rfl⟩ W2 al2 _ _ _ c24
  · exact total_le dot_S128x128_S128_S128_1_0_0_n_n_n ⟨_, rfl⟩ W2 ar2 _ _ _ c25

end Gat

end
-- ==== Proof.RefLayer.lean ====
/- The reference's layer, as the composition of its array operations (`refLayer`), and what it is on arrays of real numbers:
   the layer `Gat.layer` plus the bias (`refLayer_up`). -/
module

public import proofs.«01_k».proof.Proof.Elementwise
public import proofs.«01_k».proof.Proof.Gen.ReferenceIdeal

@[expose] public section

noncomputable section

open scoped BigOperators

namespace Gat

open Idealize.ShloMosaic Idealize.ShloMosaic.ValueIdx Cert.ReferenceIdeal Cert.ReferenceIdeal.Gen

/-- A vector of node numbers as the column of a look-up: negative numbers wrapped round. -/
def refWrap (x : IVec S320000 32) : IVec S320000x1 32 :=
  broadcastInDim S320000x1 ![0] bcast_S320000_S320000x1_0 (select (cmpi .slt x (broadcastInDim S320000 ![] bcast_S_S320000 (constantI S_ 32 0#32))) (addi x (broadcastInDim S320000 ![] bcast_S_S320000 (constantI S_ 32 10000#32))) x)

/-- The logits before the rectifier. -/
def refRaw (ft : FVec Ideal S10000x128 .f32) (fe : FVec Ideal S320000x128 .f32) (al ar ae : FVec Ideal S128 .f32)
    (src dst : IVec S320000 32) : FVec Ideal S320000 .f32 :=
  addf (addf (Host.gather gather_S10000_S320000x1_S320000_n_0_n_n_0_1_1 (Host.reduceAdd (mulf ft (broadcastInDim S10000x128 ![0, 1] bcast_S1x128_S10000x128_0_1 (broadcastInDim S1x128 ![1] bcast_S128_S1x128_1 al))) (constant S_ .f32 0x00000000#32) reducesTo_S10000x128_S10000_d1 h_S_) (refWrap src)) (Host.gather gather_S10000_S320000x1_S320000_n_0_n_n_0_1_1 (Host.reduceAdd (mulf ft (broadcastInDim S10000x128 ![0, 1] bcast_S1x128_S10000x128_0_1 (broadcastInDim S1x128 ![1] bcast_S128_S1x128_1 ar))) (constant S_ .f32 0x00000000#32) reducesTo_S10000x128_S10000_d1 h_S_) (refWrap dst))) (Host.reduceAdd (mulf fe (broadcastInDim S320000x128 ![0, 1] bcast_S1x128_S320000x128_0_1 (broadcastInDim S1x128 ![1] bcast_S128_S1x128_1 ae))) (constant S_ .f32 0x00000000#32) reducesTo_S320000x128_S320000_d1 h_S_)

/-- The leaky rectifier of the logits. -/
def refLeaky (raw : FVec Ideal S320000 .f32) : FVec Ideal S320000 .f32 :=
  select (cmpf .ogt raw (broadcastInDim S320000 ![] bcast_S_S320000 (constant S_ .f32 0x00000000#32))) raw (mulf (broadcastInDim S320000 ![] bcast_S_S320000 (constant S_ .f32 0x3E4CCCCD#32)) raw)

/-- Each logit in the column of its target node, minus infinity elsewhere. -/
def refMask (e : FVec Ideal S320000 .f32) (dst : IVec S320000 32) : FVec Ideal S320000x10000 .f32 :=
  select (cmpi .eq (broadcastInDim S320000x10000 ![0, 1] bcast_S320000x1_S320000x10000_0_1 (broadcastInDim S320000x1 ![0] bcast_S320000_S320000x1_0 dst)) (broadcastInDim S320000x10000 ![0, 1] bcast_S1x10000_S320000x10000_0_1 (broadcastInDim S1x10000 ![1] bcast_S10000_S1x10000_1 (iotaInDim S10000 32 0)))) (broadcastInDim S320000x10000 ![0, 1] bcast_S320000x1_S320000x10000_0_1 (broadcastInDim S320000x1 ![0] bcast_S320000_S320000x1_0 e)) (broadcastInDim S320000x10000 ![] bcast_S_S320000x10000 (id (constant S_ .f32 0xFF800000#32)))

/-- The largest logit of each node. -/
def refMax (e : FVec Ideal S320000 .f32) (dst : IVec S320000 32) : FVec Ideal S10000 .f32 :=
  Host.reduce FloatOps.maximumf (refMask e dst) (constant S_ .f32 0xFF800000#32) reducesTo_S320000x10000_S10000_d0 h_S_

/-- The exponentials of the logits, each less its target's maximum. -/
def refExp (e : FVec Ideal S320000 .f32) (mx : FVec Ideal S10000 .f32) (dst : IVec S320000 32) : FVec Ideal S320000 .f32 :=
  Host.exp (subf e (Host.gather gather_S10000_S320000x1_S320000_n_0_n_n_0_1_1 (select (cmpf .olt (Host.absf mx) (broadcastInDim S10000 ![] bcast_S_S10000 (constant S_ .f32 0x7F800000#32))) mx (broadcastInDim S10000 ![] bcast_S_S10000 (id (constant S_ .f32 0x00000000#32)))) (refWrap dst)))

/-- The weighted messages accumulated into their target nodes, plus the bias. -/
def refOut (ft : FVec Ideal S10000x128 .f32) (fe : FVec Ideal S320000x128 .f32) (ex : FVec Ideal S320000 .f32)
    (src dst : IVec S320000 32) (b : FVec Ideal S128 .f32) : FVec Ideal S10000x128 .f32 :=
  addf (Host.scatterAdd scatter_S10000x128_S320000x1_S320000x128_1_0_0_1 (broadcastInDim S10000x128 ![] bcast_S_S10000x128 (constant S_ .f32 0x00000000#32)) (broadcastInDim S320000x1 ![0] bcast_S320000_S320000x1_0 dst) (mulf (addf (Host.gather gather_S10000x128_S320000x1_S320000x128_1_0_n_n_0_1_1128 ft (refWrap src)) fe) (broadcastInDim S320000x128 ![0, 1] bcast_S320000x1_S320000x128_0_1 (broadcastInDim S320000x1 ![0] bcast_S320000_S320000x1_0 (Host.divf ex (maximumf (Host.gather gather_S10000_S320000x1_S320000_n_0_n_n_0_1_1 (Host.scatterAdd scatter_S10000_S320000x1_S320000_n_0_0_1 (broadcastInDim S10000 ![] bcast_S_S10000 (constant S_ .f32 0x00000000#32)) (broadcastInDim S320000x1 ![0] bcast_S320000_S320000x1_0 dst) ex) (refWrap dst)) (broadcastInDim S320000 ![] bcast_S_S320000 (constant S_ .f32 0x3089705F#32)))))))) (broadcastInDim S10000x128 ![0, 1] bcast_S1x128_S10000x128_0_1 (broadcastInDim S1x128 ![1] bcast_S128_S1x128_1 b))

/-- What follows the two products of a layer. -/
def refAttend (ft : FVec Ideal S10000x128 .f32) (fe : FVec Ideal S320000x128 .f32) (al ar ae b : FVec Ideal S128 .f32)
    (src dst : IVec S320000 32) : FVec Ideal S10000x128 .f32 :=
  refOut ft fe (refExp (refLeaky (refRaw ft fe al ar ae src dst)) (refMax (refLeaky (refRaw ft fe al ar ae src dst)) dst) dst) src dst b

/-- The product of the node inputs with a layer's matrix. -/
def refFt (x : FVec Ideal S10000x128 .f32) (W : FVec Ideal S128x128 .f32) : FVec Ideal S10000x128 .f32 :=
  Host.dotGeneral dot_S10000x128_S128x128_S10000x128_1_0_0_1_n_n none x W

/-- The product of the edge inputs with a layer's matrix. -/
def refFe (ein : FVec Ideal S320000x16 .f32) (We : FVec Ideal S16x128 .f32) : FVec Ideal S320000x128 .f32 :=
  Host.dotGeneral dot_S320000x16_S16x128_S320000x128_1_0_0_1_n_n none ein We

/-! ## The pieces on real arrays -/

variable {src dst : IVec S320000 32} {s d : Fin 320000 → Fin 10000} {l : Fin 320000 → Option (Fin 10000)}

/-- The look-up column of a vector of words reads the nodes they name. -/
theorem refWrap_holds (h : Names src s) : Holds (refWrap src) s := h.look _ _ _ (fun _ => rfl) fun _ => rfl

/-- The products are products over the reals. -/
theorem refFt_up (x : Fin 10000 → Fin 128 → ℝ) (W : Fin 128 → Fin 128 → ℝ) : refFt (up2 x) (up2 W) = up2 (mm x W) :=
  dot_up _ rfl x W

theorem refFe_up (x : Fin 320000 → Fin 16 → ℝ) (W : Fin 16 → Fin 128 → ℝ) : refFe (up2 x) (up2 W) = up2 (mm x W) :=
  dot_up _ rfl x W

/-- A real matrix times a vector repeated down its rows, summed along the rows, is the matrix against the vector. -/
theorem weighRows_up {A B : ℕ} (h1 : (⟨1, ![B]⟩ : Shape).BroadcastsInDim ⟨2, ![1, B]⟩ ![1])
    (h2 : (⟨2, ![1, B]⟩ : Shape).BroadcastsInDim ⟨2, ![A, B]⟩ ![0, 1])
    (h' : (⟨2, ![A, B]⟩ : Shape).ReducesTo [1] ⟨1, ![A]⟩) (hu : 0 < (⟨0, ![]⟩ : Shape).numel)
    (x : Fin A → Fin B → ℝ) (v : Fin B → ℝ) :
    Host.reduceAdd (mulf (up2 x) (broadcastInDim ⟨2, ![A, B]⟩ ![0, 1] h2 (broadcastInDim ⟨2, ![1, B]⟩ ![1] h1 (up1 v))))
      (constant (⟨0, ![]⟩ : Shape) .f32 0x00000000#32) h' hu = up1 (mv x v) := by
  have hb : broadcastInDim ⟨2, ![A, B]⟩ ![0, 1] h2 (broadcastInDim ⟨2, ![1, B]⟩ ![1] h1 (up1 v)) = up2 (fun _ j => v j) :=
    ext2 fun i j => spread_cols h1 h2 (up1 v) i j
  rw [hb, mul2_up, rowSum_up]
  rfl

theorem refRaw_up (hs : Names src s) (hd : Names dst d) (ft : Fin 10000 → Fin 128 → ℝ) (fe : Fin 320000 → Fin 128 → ℝ)
    (al ar ae : Fin 128 → ℝ) :
    refRaw (up2 ft) (up2 fe) (up1 al) (up1 ar) (up1 ae) src dst = up1 (logit s d ft fe al ar ae) := by
  unfold refRaw
  rw [weighRows_up, weighRows_up, weighRows_up, take_up _ rfl rfl rfl rfl _ _ s (refWrap_holds hs) (by norm_num),
    take_up _ rfl rfl rfl rfl _ _ d (refWrap_holds hd) (by norm_num), add1_up, add1_up]
  rfl

theorem refLeaky_up (f : Fin 320000 → ℝ) : refLeaky (up1 f) = up1 (fun e => leaky slope (f e)) := leaky_up f _

theorem refMask_up (hl : Ends dst l) (z : Fin 320000 → ℝ) (e : Fin 320000) (n : Fin 10000) :
    refMask (up1 z) dst (ix2 e n) = if l e = some n then ((z e : ℝ) : EReal) else ⊥ := by
  unfold refMask
  have h1 : broadcastInDim S320000x10000 ![0, 1] bcast_S320000x1_S320000x10000_0_1 (broadcastInDim S320000x1 ![0] bcast_S320000_S320000x1_0 dst) (ix2 e n)
      = dst (ix1 e) := spread_rows _ _ _ e n
  have h2 : broadcastInDim S320000x10000 ![0, 1] bcast_S1x10000_S320000x10000_0_1 (broadcastInDim S1x10000 ![1] bcast_S10000_S1x10000_1 (iotaInDim S10000 32 0)) (ix2 e n)
      = BitVec.ofNat 32 n.val := spread_cols _ _ _ e n
  have h3 : broadcastInDim S320000x10000 ![0, 1] bcast_S320000x1_S320000x10000_0_1 (broadcastInDim S320000x1 ![0] bcast_S320000_S320000x1_0 (up1 z)) (ix2 e n)
      = ((z e : ℝ) : EReal) := spread_rows _ _ _ e n
  show Scalar.select (IntOp.cmpi .eq _ _) _ (Ideal.ofBits .f32 0xFF800000#32) = _
  rw [h1, h2, h3, ofBits_bot]
  have hdn : IntOp.cmpi .eq (dst (ix1 e)) (BitVec.ofNat 32 n.val) = 1#1 ↔ l e = some n := by
    rw [IntOp.cmpi_eq, ← hl e n, ← BitVec.toInt_inj, StableHlo.Predicate.toInt_ofNat_small _ (by have := n.isLt; omega)]
  by_cases h : l e = some n
  · rw [if_pos h]
    exact if_pos (hdn.2 h)
  · rw [if_neg h]
    exact if_neg (mt hdn.1 h)

/-- The shift of each node: a real number, and where the node has edges the logit of one of them. -/
theorem refMax_up (hl : Ends dst l) (z : Fin 320000 → ℝ) : ∃ mx : Fin 10000 → ℝ,
    select (cmpf .olt (Host.absf (refMax (up1 z) dst)) (broadcastInDim S10000 ![] bcast_S_S10000 (constant S_ .f32 0x7F800000#32)))
      (refMax (up1 z) dst) (broadcastInDim S10000 ![] bcast_S_S10000 (id (constant S_ .f32 0x00000000#32))) = up1 mx
    ∧ ∀ e n, l e = some n → ∃ e', l e' = some n ∧ z e' = mx n := by
  have key : ∀ n, ∃ r : ℝ, select (cmpf .olt (Host.absf (refMax (up1 z) dst)) (broadcastInDim S10000 ![] bcast_S_S10000 (constant S_ .f32 0x7F800000#32)))
      (refMax (up1 z) dst) (broadcastInDim S10000 ![] bcast_S_S10000 (id (constant S_ .f32 0x00000000#32))) (ix1 n) = ((r : ℝ) : EReal)
      ∧ ∀ e, l e = some n → ∃ e', l e' = some n ∧ z e' = r := fun n => by
    rcases colMax_attained reducesTo_S320000x10000_S10000_d0 h_S_ (refMask (up1 z) dst) l z (refMask_up hl z) n with ⟨h1, h2⟩ | ⟨e', h1, h2⟩
    · refine ⟨0, (bot_replaced (refMax (up1 z) dst) _ _ _ h2).trans ?_, fun e he => absurd he (h1 e)⟩
      exact Ideal.ofBits_zero_f32
    · exact ⟨z e', finite_kept (refMax (up1 z) dst) _ _ _ _ h2, fun _ _ => ⟨e', h1, rfl⟩⟩
  choose mx h1 h2 using key
  exact ⟨mx, ext1 h1, fun e n => h2 n e⟩

/-- The exponentials, shifted by the real numbers `mx`. -/
theorem refExp_up (hd : Names dst d) (z : Fin 320000 → ℝ) (M : FVec Ideal S10000 .f32) (mx : Fin 10000 → ℝ)
    (hM : select (cmpf .olt (Host.absf M) (broadcastInDim S10000 ![] bcast_S_S10000 (constant S_ .f32 0x7F800000#32))) M
      (broadcastInDim S10000 ![] bcast_S_S10000 (id (constant S_ .f32 0x00000000#32))) = up1 mx) :
    refExp (up1 z) M dst = up1 (fun e => Real.exp (z e - mx (d e))) := by
  unfold refExp
  rw [hM, take_up _ rfl rfl rfl rfl _ _ d (refWrap_holds hd) (by norm_num), sub1_up, exp1_up]

/-- A vector repeated along the columns. -/
theorem spreadRows_up {A B : ℕ} (h1 : (⟨1, ![A]⟩ : Shape).BroadcastsInDim ⟨2, ![A, 1]⟩ ![0])
    (h2 : (⟨2, ![A, 1]⟩ : Shape).BroadcastsInDim ⟨2, ![A, B]⟩ ![0, 1]) (v : Fin A → ℝ) :
    broadcastInDim ⟨2, ![A, B]⟩ ![0, 1] h2 (broadcastInDim ⟨2, ![A, 1]⟩ ![0] h1 (up1 v)) = up2 (fun i _ => v i) :=
  ext2 fun i j => spread_rows h1 h2 (up1 v) i j

/-- A bias repeated down the rows and added. -/
theorem addBias {A B : ℕ} (h1 : (⟨1, ![B]⟩ : Shape).BroadcastsInDim ⟨2, ![1, B]⟩ ![1])
    (h2 : (⟨2, ![1, B]⟩ : Shape).BroadcastsInDim ⟨2, ![A, B]⟩ ![0, 1]) (f : Fin A → Fin B → ℝ) (b : FVec Ideal ⟨1, ![B]⟩ .f32) :
    addf (up2 f) (broadcastInDim ⟨2, ![A, B]⟩ ![0, 1] h2 (broadcastInDim ⟨2, ![1, B]⟩ ![1] h1 b)) = biased f b :=
  ext2 fun i j => congrArg (fun y : EReal => ((f i j : ℝ) : EReal) + y) (spread_cols h1 h2 b i j)

theorem refOut_up (hs : Names src s) (hd : Names dst d) (hl : Ends dst l) (ft : Fin 10000 → Fin 128 → ℝ) (fe : Fin 320000 → Fin 128 → ℝ)
    (ex : Fin 320000 → ℝ) (b : FVec Ideal S128 .f32) :
    refOut (up2 ft) (up2 fe) (up1 ex) src dst b
      = biased (fun n h => ∑ e with l e = some n, (ft (s e) h + fe e h) * (ex e / max (∑ e' with l e' = some (d e), ex e') guard)) b := by
  have hz1 : ∀ i, broadcastInDim S10000 ![] bcast_S_S10000 (constant (F := Ideal) S_ .f32 0x00000000#32) i = 0 := fun _ =>
    Ideal.ofBits_zero_f32
  have hz2 : ∀ i, broadcastInDim S10000x128 ![] bcast_S_S10000x128 (constant (F := Ideal) S_ .f32 0x00000000#32) i = 0 := fun _ =>
    Ideal.ofBits_zero_f32
  unfold refOut
  rw [acc_up scatter_S10000_S320000x1_S320000_n_0_0_1 ⟨_, rfl⟩ _ hz1 _ l (hl.col _), take_up _ rfl rfl rfl rfl _ _ d (refWrap_holds hd) (by norm_num),
    max1_up, div1_up _ _ (fun e => (lt_of_lt_of_le guard_pos (le_max_right _ _)).ne'), spreadRows_up,
    takeRows_up _ rfl rfl rfl rfl rfl _ _ s (refWrap_holds hs) (by norm_num), add2_up, mul2_up,
    accRows_up scatter_S10000x128_S320000x1_S320000x128_1_0_0_1 ⟨_, rfl⟩ _ hz2 _ l (hl.col _), addBias]

/-- THE REFERENCE'S LAYER on real arrays is `Gat.layer`, plus the bias. -/
theorem refLayer_up (hs : Names src s) (hd : Names dst d) (hl : Ends dst l) (ein : Fin 320000 → Fin 16 → ℝ) (x : Fin 10000 → Fin 128 → ℝ)
    (W : Fin 128 → Fin 128 → ℝ) (We : Fin 16 → Fin 128 → ℝ) (al ar ae : Fin 128 → ℝ) (b : FVec Ideal S128 .f32) :
    refAttend (refFt (up2 x) (up2 W)) (refFe (up2 ein) (up2 We)) (up1 al) (up1 ar) (up1 ae) b src dst
      = biased (layer slope s d l ein x W We al ar ae) b := by
  rw [refFt_up, refFe_up]
  unfold refAttend
  rw [refRaw_up hs hd, refLeaky_up]
  obtain ⟨mx, hM, hmx⟩ := refMax_up hl (fun e => leaky slope (logit s d (mm x W) (mm ein We) al ar ae e))
  rw [refExp_up hd _ _ mx hM, refOut_up hs hd hl]
  refine congrArg (fun f => biased f b) (funext fun n => funext fun h => ?_)
  exact reference_form s d l (hd.of_ends hl) (mm x W) (mm ein We) _ mx guard guard_le_one hmx n h

end Gat

end
-- ==== Proof.RefRun.lean ====
/- The reference's run: its result is the composition of four layers, with the hyperbolic tangent between them. -/
module

public import proofs.«01_k».proof.Proof.RefLayer
public import proofs.«01_k».proof.Proof.Gen.ReferenceIdeal.Run
public import Idealize.ShloMosaic.Adequacy
public import Idealize.ShloMosaic.Init

@[expose] public section

noncomputable section

namespace Gat

open Idealize.ShloMosaic Idealize.ShloMosaic.TcCoe Idealize.SL.Sem Idealize.ShloMosaic.StableHlo Cert.ReferenceIdeal
  Cert.ReferenceIdeal.Gen Cert.ReferenceIdeal.Value

/-- Row 0 of the edge list: the source nodes. -/
def refSrc (a1 : IVec S2x320000 32) : IVec S320000 32 :=
  shapeCast _ (extractStridedSlice S1x320000 ![0, 0] a1 slices_S2x320000_S1x320000_0_0) shapeCasts_S1x320000_S320000

/-- Row 1 of the edge list: the target nodes. -/
def refDst (a1 : IVec S2x320000 32) : IVec S320000 32 :=
  shapeCast _ (extractStridedSlice S1x320000 ![1, 0] a1 slices_S2x320000_S1x320000_1_0) shapeCasts_S1x320000_S320000

/-- One layer of the reference, from its inputs. -/
def refLayer (a1 : IVec S2x320000 32) (ein : FVec Ideal S320000x16 .f32) (x : FVec Ideal S10000x128 .f32)
    (W : FVec Ideal S128x128 .f32) (We : FVec Ideal S16x128 .f32) (al ar ae b : FVec Ideal S128 .f32) : FVec Ideal S10000x128 .f32 :=
  refAttend (refFt x W) (refFe ein We) al ar ae b (refSrc a1) (refDst a1)

/-- The logits of a layer after the rectifier. -/
theorem refAttend_eq (ft : FVec Ideal S10000x128 .f32) (fe : FVec Ideal S320000x128 .f32) (al ar ae b : FVec Ideal S128 .f32)
    (src dst : IVec S320000 32) (raw lk ex : FVec Ideal S320000 .f32) (mx : FVec Ideal S10000 .f32)
    (h1 : raw = refRaw ft fe al ar ae src dst) (h2 : lk = refLeaky raw) (h3 : mx = refMax lk dst) (h4 : ex = refExp lk mx dst) :
    refOut ft fe ex src dst b = refAttend ft fe al ar ae b src dst := by
  subst h1 h2 h3 h4
  rfl

variable (V : Valuation τ sig (Elt Ideal))

/-- The node features after the first layer's product with the second layer's matrix. -/
theorem v92_eq : res_main_v92 V = refFt (Host.tanh (refLayer (V (Proc.devRef .tc main_arg1)) (V (Proc.devRef .tc main_arg2))
    (V (Proc.devRef .tc main_arg0)) (V (Proc.devRef .tc main_arg3)) (V (Proc.devRef .tc main_arg4)) (V (Proc.devRef .tc main_arg5))
    (V (Proc.devRef .tc main_arg6)) (V (Proc.devRef .tc main_arg7)) (V (Proc.devRef .tc main_arg8)))) (V (Proc.devRef .tc main_arg9)) := by
  have h := refAttend_eq (res_main_v4 V) (res_main_v5 V) (V (Proc.devRef .tc main_arg5)) (V (Proc.devRef .tc main_arg6))
    (V (Proc.devRef .tc main_arg7)) (V (Proc.devRef .tc main_arg8)) (res_main_v1 V) (res_main_v3 V) (res_main_v33 V) (res_main_v38 V)
    (res_main_v60 V) (res_main_v47 V) rfl rfl rfl rfl
  exact congrArg (fun y => refFt (Host.tanh y) (V (Proc.devRef .tc main_arg9))) h

/-- The node features after the second layer, multiplied by the second layer's matrix again. -/
theorem v180_eq : res_main_v180 V = refFt (Host.tanh (refAttend (res_main_v92 V) (res_main_v93 V) (V (Proc.devRef .tc main_arg11))
    (V (Proc.devRef .tc main_arg12)) (V (Proc.devRef .tc main_arg13)) (V (Proc.devRef .tc main_arg14)) (res_main_v1 V) (res_main_v3 V)))
    (V (Proc.devRef .tc main_arg9)) := by
  have h := refAttend_eq (res_main_v92 V) (res_main_v93 V) (V (Proc.devRef .tc main_arg11)) (V (Proc.devRef .tc main_arg12))
    (V (Proc.devRef .tc main_arg13)) (V (Proc.devRef .tc main_arg14)) (res_main_v1 V) (res_main_v3 V) (res_main_v121 V) (res_main_v126 V)
    (res_main_v148 V) (res_main_v135 V) rfl rfl rfl rfl
  exact congrArg (fun y => refFt (Host.tanh y) (V (Proc.devRef .tc main_arg9))) h

/-- The node features after the third layer, multiplied by the last layer's matrix. -/
theorem v268_eq : res_main_v268 V = refFt (Host.tanh (refAttend (res_main_v180 V) (res_main_v181 V) (V (Proc.devRef .tc main_arg11))
    (V (Proc.devRef .tc main_arg12)) (V (Proc.devRef .tc main_arg13)) (V (Proc.devRef .tc main_arg14)) (res_main_v1 V) (res_main_v3 V)))
    (V (Proc.devRef .tc main_arg15)) := by
  have h := refAttend_eq (res_main_v180 V) (res_main_v181 V) (V (Proc.devRef .tc main_arg11)) (V (Proc.devRef .tc main_arg12))
    (V (Proc.devRef .tc main_arg13)) (V (Proc.devRef .tc main_arg14)) (res_main_v1 V) (res_main_v3 V) (res_main_v209 V) (res_main_v214 V)
    (res_main_v236 V) (res_main_v223 V) rfl rfl rfl rfl
  exact congrArg (fun y => refFt (Host.tanh y) (V (Proc.devRef .tc main_arg15))) h

/-- Four layers, the middle two with the same parameters. -/
def refNet (a0 : FVec Ideal S10000x128 .f32) (a1 : IVec S2x320000 32) (a2 : FVec Ideal S320000x16 .f32)
    (a3 : FVec Ideal S128x128 .f32) (a4 : FVec Ideal S16x128 .f32) (a5 a6 a7 a8 : FVec Ideal S128 .f32)
    (a9 : FVec Ideal S128x128 .f32) (a10 : FVec Ideal S16x128 .f32) (a11 a12 a13 a14 : FVec Ideal S128 .f32)
    (a15 : FVec Ideal S128x128 .f32) (a16 : FVec Ideal S16x128 .f32) (a17 a18 a19 a20 : FVec Ideal S128 .f32) :
    FVec Ideal S10000x128 .f32 :=
  refLayer a1 a2 (Host.tanh (refLayer a1 a2 (Host.tanh (refLayer a1 a2 (Host.tanh (refLayer a1 a2 a0 a3 a4 a5 a6 a7 a8))
    a9 a10 a11 a12 a13 a14)) a9 a10 a11 a12 a13 a14)) a15 a16 a17 a18 a19 a20

/-- What the last layer leaves is the four layers of the arguments. -/
theorem v354_eq : refOut (res_main_v268 V) (res_main_v269 V) (res_main_v324 V) (res_main_v1 V) (res_main_v3 V) (V (Proc.devRef .tc main_arg20))
    = refNet (V (Proc.devRef .tc main_arg0)) (V (Proc.devRef .tc main_arg1)) (V (Proc.devRef .tc main_arg2)) (V (Proc.devRef .tc main_arg3))
      (V (Proc.devRef .tc main_arg4)) (V (Proc.devRef .tc main_arg5)) (V (Proc.devRef .tc main_arg6)) (V (Proc.devRef .tc main_arg7))
      (V (Proc.devRef .tc main_arg8)) (V (Proc.devRef .tc main_arg9)) (V (Proc.devRef .tc main_arg10)) (V (Proc.devRef .tc main_arg11))
      (V (Proc.devRef .tc main_arg12)) (V (Proc.devRef .tc main_arg13)) (V (Proc.devRef .tc main_arg14)) (V (Proc.devRef .tc main_arg15))
      (V (Proc.devRef .tc main_arg16)) (V (Proc.devRef .tc main_arg17)) (V (Proc.devRef .tc main_arg18)) (V (Proc.devRef .tc main_arg19))
      (V (Proc.devRef .tc main_arg20)) := by
  have h := refAttend_eq (res_main_v268 V) (res_main_v269 V) (V (Proc.devRef .tc main_arg17)) (V (Proc.devRef .tc main_arg18))
    (V (Proc.devRef .tc main_arg19)) (V (Proc.devRef .tc main_arg20)) (res_main_v1 V) (res_main_v3 V) (res_main_v297 V) (res_main_v302 V)
    (res_main_v324 V) (res_main_v311 V) rfl rfl rfl rfl
  rw [h, v268_eq, v180_eq, v92_eq]
  rfl

/-- THE REFERENCE'S RUN: it terminates, its result buffer holds the four layers of the arguments, the arguments are unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v354) = refNet (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11))
        (m ((c.tc : Thread nD τ).loc main_arg12)) (m ((c.tc : Thread nD τ).loc main_arg13)) (m ((c.tc : Thread nD τ).loc main_arg14))
        (m ((c.tc : Thread nD τ).loc main_arg15)) (m ((c.tc : Thread nD τ).loc main_arg16)) (m ((c.tc : Thread nD τ).loc main_arg17))
        (m ((c.tc : Thread nD τ).loc main_arg18)) (m ((c.tc : Thread nD τ).loc main_arg19)) (m ((c.tc : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run _ _ _).mono (fun _ h c => ⟨(h c).1.trans (v354_eq (launchContents m c)), (h c).2⟩) (Value.run m ρ)

/-- The reference's frame: the arguments unchanged, and every semaphore counter at zero, since it declares no semaphore. -/
theorem ref_frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.sem = fun _ => 0 :=
  (θ_run _ _ _).mono (fun r h => ⟨fun c => (h c).2, sem_eq_zero_of_no_sems (by decide) r.2⟩) (Value.run m ρ)

end Gat

end
-- ==== Proof.KerRegions.lean ====
/- What the kernel's launches compute on arrays of real numbers: the edges' share of the logits (`edgeTerm_up`), the node
   features and the nodes' shares of the logits (`dense_up`, `denseLeft_up`, `denseRight_up`), and the division by the sums of
   the weights (`combine_up`). -/
module

public import proofs.«01_k».proof.Proof.Elementwise
public import proofs.«01_k».proof.Proof.Gen.KernelIdeal.Skeleton
public import Idealize.ShloMosaic.Lib.Pipeline.Value
public import Idealize.ShloMosaic.Lib.Pipeline.FrameBody

@[expose] public section

noncomputable section

open scoped BigOperators

namespace Gat

open Idealize.ShloMosaic Idealize.ShloMosaic.ValueIdx Cert.KernelIdeal Cert.KernelIdeal.Gen

/-! ## Reshapes -/

/-- A vector viewed as a column. -/
theorem column_up {a : ℕ} (v : Fin a → ℝ) (h : (⟨1, ![a]⟩ : Shape).ShapeCasts ⟨2, ![a, 1]⟩) :
    shapeCast ⟨2, ![a, 1]⟩ (up1 v) h = up2 (fun i _ => v i) :=
  ext2 fun i j => shapeCast_apply _ h (ix2 i j) (ix1 i) (by
    rw [Shape.rowMajor_val_one, Shape.rowMajor_val_two]
    show i.val = i.val * 1 + j.val
    omega)

/-- A vector viewed as a row. -/
theorem row_apply {a : ℕ} (v : FVec Ideal ⟨1, ![a]⟩ .f32) (h : (⟨1, ![a]⟩ : Shape).ShapeCasts ⟨2, ![1, a]⟩) (i : Fin 1) (j : Fin a) :
    shapeCast ⟨2, ![1, a]⟩ v h (ix2 i j) = v (ix1 j) :=
  shapeCast_apply _ h (ix2 i j) (ix1 j) (by
    rw [Shape.rowMajor_val_one, Shape.rowMajor_val_two]
    show j.val = i.val * a + j.val
    have : i.val = 0 := by omega
    rw [this]; omega)

/-- A column viewed as a vector. -/
theorem uncolumn_up {a : ℕ} (x : Fin a → Fin 1 → ℝ) (h : (⟨2, ![a, 1]⟩ : Shape).ShapeCasts ⟨1, ![a]⟩) :
    shapeCast ⟨1, ![a]⟩ (up2 x) h = up1 (fun i => x i 0) :=
  ext1 fun i => shapeCast_apply _ h (ix1 i) (ix2 i 0) (by
    rw [Shape.rowMajor_val_one, Shape.rowMajor_val_two]
    show i.val * 1 + 0 = i.val
    omega)

/-! ## The edges' share of the logits

The launch multiplies rows that hold eight edges of sixteen features each by a matrix of eight columns, column `q` holding the
sixteen weights in rows `16 q … 16 q + 15` and zeros elsewhere. -/

/-- The lane test: whether lane `i` of a row belongs to the row's edge `j`. -/
theorem lane_test : ∀ (i : Fin 128) (j : Fin 8),
    IntOp.cmpi .eq
      (Scalar.select
        (IntOp.andi
          (IntOp.cmpi .ne
            (IntOp.subi ((IntOp.cmpi .sgt (BitVec.ofNat 32 i.val) 0#32).setWidth 32) ((IntOp.cmpi .slt (BitVec.ofNat 32 i.val) 0#32).setWidth 32))
            (Scalar.subi (Scalar.extui (Scalar.cmpi .sgt 16#32 0#32)) (Scalar.extui (Scalar.cmpi .slt 16#32 0#32))))
          (IntOp.cmpi .ne (IntOp.remsi .vector (BitVec.ofNat 32 i.val) 16#32) 0#32))
        (IntOp.subi (IntOp.divsi .vector (BitVec.ofNat 32 i.val) 16#32) 1#32)
        (IntOp.divsi .vector (BitVec.ofNat 32 i.val) 16#32))
      (BitVec.ofNat 32 j.val) = if i.val / 16 = j.val then 1#1 else 0#1 := by
  decide +kernel

/-- The weights of the edge features, against the layer's matrix. -/
theorem edgeWeights_up (We : Fin 16 → Fin 128 → ℝ) (ae : Fin 128 → ℝ) (h : S128x1.ShapeCasts S128x1) :
    matmul dot_S16x128_S128x1_S16x1_1_0_0_1_n_n none (up2 We) (shapeCast S128x1 (up2 fun i (_ : Fin 1) => ae i) h)
      (constant S16x1 .f32 0x00000000#32) = up2 (fun k _ => mv We ae k) := by
  rw [shapeCast_self]
  exact matmul_up _ rfl none We _

/-- Eight copies of a column of sixteen, one under the other. -/
theorem eightCopies_up (w : Fin 16 → ℝ) (h : Shape.Concatenates [S16x1, S16x1, S16x1, S16x1, S16x1, S16x1, S16x1, S16x1] S128x1 0) :
    concatenate S128x1 0 [⟨S16x1, up2 fun k (_ : Fin 1) => w k⟩, ⟨S16x1, up2 fun k (_ : Fin 1) => w k⟩, ⟨S16x1, up2 fun k (_ : Fin 1) => w k⟩,
      ⟨S16x1, up2 fun k (_ : Fin 1) => w k⟩, ⟨S16x1, up2 fun k (_ : Fin 1) => w k⟩, ⟨S16x1, up2 fun k (_ : Fin 1) => w k⟩,
      ⟨S16x1, up2 fun k (_ : Fin 1) => w k⟩, ⟨S16x1, up2 fun k (_ : Fin 1) => w k⟩] h
      = up2 (fun (i : Fin 128) (_ : Fin 1) => w ⟨i.val % 16, Nat.mod_lt _ (by norm_num)⟩) :=
  ext2 fun i j => concatenate_replicate_apply (s₁ := S16x1) (t := S128x1) 0 8 (up2 fun k (_ : Fin 1) => w k) h rfl (ix2 i j)
    (ix2 ⟨i.val % 16, Nat.mod_lt _ (by norm_num)⟩ j) rfl (fun b hb => by
      match b with
      | ⟨0, _⟩ => exact absurd rfl hb
      | ⟨1, _⟩ => rfl)

/-- The eight-column matrix: column `q` holds the sixteen weights in the rows of the row's edge `q`. -/
theorem laneMatrix_up (w : Fin 128 → ℝ) (c : IVec S128x8 1) (hc : ∀ (i : Fin 128) (j : Fin 8), c (ix2 i j) = if i.val / 16 = j.val then 1#1 else 0#1)
    (h1 : S128x1.ShapeCasts S128x1) (h2 : S128x1.Broadcasts S128x8) :
    select c (broadcastTo S128x8 (shapeCast S128x1 (up2 fun i (_ : Fin 1) => w i) h1) h2)
      (broadcast S128x8 (Scalar.ofBits (F := Ideal) .f32 0x00000000#32)) = up2 (fun i j => if i.val / 16 = j.val then w i else 0) :=
  ext2 fun i j => by
    have hb : broadcastTo S128x8 (shapeCast S128x1 (up2 fun i (_ : Fin 1) => w i) h1) h2 (ix2 i j) = ((w i : ℝ) : EReal) := by
      rw [shapeCast_self]
      refine broadcastTo_apply _ h2 (ix2 i j) (ix2 i 0) fun a => ?_
      match a with
      | ⟨0, _⟩ => rfl
      | ⟨1, _⟩ => rfl
    show Scalar.select (c (ix2 i j)) _ (Ideal.ofBits .f32 0x00000000#32) = _
    rw [hb, hc, Ideal.ofBits_zero_f32]
    show _ = (((if i.val / 16 = j.val then w i else 0 : ℝ)) : EReal)
    by_cases h : i.val / 16 = j.val
    · rw [if_pos h, if_pos h]; rfl
    · rw [if_neg h, if_neg h]; rfl

/-- Rows of sixteen features, eight to a row. -/
theorem eightToARow_up (ein : Fin 320000 → Fin 16 → ℝ) (h : S320000x16.ShapeCasts S40000x128) :
    shapeCast S40000x128 (up2 ein) h = up2 (fun (r : Fin 40000) (l : Fin 128) =>
      ein ⟨8 * r.val + l.val / 16, by have := r.isLt; have := l.isLt; omega⟩ ⟨l.val % 16, Nat.mod_lt _ (by norm_num)⟩) :=
  ext2 fun r l => shapeCast_apply _ h (ix2 r l)
    (ix2 ⟨8 * r.val + l.val / 16, by have := r.isLt; have := l.isLt; omega⟩ ⟨l.val % 16, Nat.mod_lt _ (by norm_num)⟩) (by
      rw [Shape.rowMajor_val_two, Shape.rowMajor_val_two]
      show (8 * r.val + l.val / 16) * 16 + l.val % 16 = r.val * 128 + l.val
      omega)

/-- Eight numbers to a row, viewed as one vector. -/
theorem oneVector_up (x : Fin 40000 → Fin 8 → ℝ) (h : S40000x8.ShapeCasts S320000) :
    shapeCast S320000 (up2 x) h = up1 (fun e : Fin 320000 => x ⟨e.val / 8, by have := e.isLt; omega⟩ ⟨e.val % 8, Nat.mod_lt _ (by norm_num)⟩) :=
  ext1 fun e => shapeCast_apply _ h (ix1 e)
    (ix2 ⟨e.val / 8, by have := e.isLt; omega⟩ ⟨e.val % 8, Nat.mod_lt _ (by norm_num)⟩) (by
      rw [Shape.rowMajor_val_one, Shape.rowMajor_val_two]
      show e.val / 8 * 8 + e.val % 8 = e.val
      omega)

/-- A sum over the lanes of a row that meets only one edge's lanes is the sum over that edge's features. -/
theorem sum_lanes (q : Fin 8) (f : Fin 8 → Fin 16 → ℝ) (w : Fin 16 → ℝ) :
    ∑ l : Fin 128, f ⟨l.val / 16, by have := l.isLt; omega⟩ ⟨l.val % 16, Nat.mod_lt _ (by norm_num)⟩
        * (if l.val / 16 = q.val then w ⟨l.val % 16, Nat.mod_lt _ (by norm_num)⟩ else 0)
      = ∑ k, f q k * w k := by
  rw [← (finProdFinEquiv (m := 8) (n := 16)).sum_comp, Fintype.sum_prod_type]
  rw [Finset.sum_eq_single q]
  · refine Finset.sum_congr rfl fun k _ => ?_
    have h1 : (finProdFinEquiv (q, k)).val / 16 = q.val := by simp [finProdFinEquiv]; omega
    have h2 : (finProdFinEquiv (q, k)).val % 16 = k.val := by simp [finProdFinEquiv]
    simp only [h1, h2, if_true]
  · intro p _ hp
    refine Finset.sum_eq_zero fun k _ => ?_
    have h1 : (finProdFinEquiv (p, k)).val / 16 = p.val := by simp [finProdFinEquiv]; omega
    rw [if_neg, mul_zero]
    rw [h1]
    exact fun e => hp (Fin.ext e)
  · intro h
    exact absurd (Finset.mem_univ _) h

/-- The edges' share of the logits, from the edge features, a layer's matrix and its vector of attention weights. -/
def edgeTerm (ein : FVec Ideal S320000x16 .f32) (We : FVec Ideal S16x128 .f32) (ae : FVec Ideal S128 .f32) : FVec Ideal S320000 .f32 :=
  shapeCast S320000 (k0_pay1 We (shapeCast S128x1 ae shapeCasts_S128_S128x1) (shapeCast S40000x128 ein shapeCasts_S320000x16_S40000x128))
    shapeCasts_S40000x8_S320000

/-- THE EDGES' SHARE OF THE LOGITS on real arrays: the edge features' products with the layer's matrix, against the weights. -/
theorem edgeTerm_up (ein : Fin 320000 → Fin 16 → ℝ) (We : Fin 16 → Fin 128 → ℝ) (ae : Fin 128 → ℝ) :
    edgeTerm (up2 ein) (up2 We) (up1 ae) = up1 (mv (mm ein We) ae) := by
  unfold edgeTerm k0_pay1
  dsimp only
  rw [column_up, edgeWeights_up, eightCopies_up,
    laneMatrix_up (fun i : Fin 128 => mv We ae ⟨i.val % 16, Nat.mod_lt _ (by norm_num)⟩) _ (fun i j => ?_), shapeCast_self, eightToARow_up]
  · refine (congrArg (fun y => shapeCast S320000 y shapeCasts_S40000x8_S320000) (matmul_up _ rfl none _ _)).trans ?_
    rw [oneVector_up]
    refine congrArg up1 (funext fun e => ?_)
    rw [mv_mm]
    have hq : e.val % 8 < 8 := Nat.mod_lt _ (by norm_num)
    have he := e.isLt
    refine (sum_lanes ⟨e.val % 8, hq⟩ (fun p k => ein ⟨8 * (e.val / 8) + p.val, by have := p.isLt; omega⟩ k) (mv We ae)).trans ?_
    refine Finset.sum_congr rfl fun k _ => ?_
    rw [show (⟨8 * (e.val / 8) + e.val % 8, by omega⟩ : Fin 320000) = e from Fin.ext (Nat.div_add_mod _ _)]
  · rw [show iota .tc S128x8 32 [0] iota_S128x8_d0_w32 = fun x => BitVec.ofNat 32 (x 0).val from funext (iota_single_apply _ _ _ _ _),
      show iota .tc S128x8 32 [1] iota_S128x8_d1_w32 = fun x => BitVec.ofNat 32 (x 1).val from funext (iota_single_apply _ _ _ _ _)]
    exact lane_test i j

/-! ## The node features and the nodes' shares of the logits -/

/-- The two vectors of attention weights as the two columns of a matrix. -/
def weightCols (al ar : FVec Ideal S128 .f32) : FVec Ideal S128x2 .f32 :=
  concatenate S128x2 1 [⟨S128x1, broadcastInDim S128x1 ![0] bcast_S128_S128x1_0 al⟩, ⟨S128x1, broadcastInDim S128x1 ![0] bcast_S128_S128x1_0 ar⟩]
    concatenates_S128x1_S128x1_S128x2_d1

theorem weightCols_left (al ar : Fin 128 → ℝ) (h : S128x2.Slices ![0, 0] S128x1) :
    extractStridedSlice S128x1 ![0, 0] (weightCols (up1 al) (up1 ar)) h = up2 (fun i _ => al i) :=
  ext2 fun i j => by
    have hj : j.val = 0 := by omega
    refine (extractStridedSlice_apply _ _ h (ix2 i j) (ix2 i 0) fun a => ?_).trans
      ((concatenate_pair_apply_left (t := S128x2) (s₁ := S128x1) (s₂ := S128x1) 1 _ _ _ (ix2 i 0) rfl (ix2 i 0) fun b => ?_).trans (as_col _ _ i 0))
    · match a with
      | ⟨0, _⟩ => exact (Nat.zero_add _).symm
      | ⟨1, _⟩ => show 0 = 0 + j.val; omega
    · match b with
      | ⟨0, _⟩ => rfl
      | ⟨1, _⟩ => rfl

theorem weightCols_right (al ar : Fin 128 → ℝ) (h : S128x2.Slices ![0, 1] S128x1) :
    extractStridedSlice S128x1 ![0, 1] (weightCols (up1 al) (up1 ar)) h = up2 (fun i _ => ar i) :=
  ext2 fun i j => by
    have hj : j.val = 0 := by omega
    refine (extractStridedSlice_apply _ _ h (ix2 i j) (ix2 i 1) fun a => ?_).trans
      ((concatenate_apply_piece (t := S128x2) 1 _ _ (ix2 i 1) 1 (by simp) S128x1 _ rfl rfl 1 rfl (ix2 i 0) (fun b hb => ?_) rfl).trans (as_col _ _ i 0))
    · match a with
      | ⟨0, _⟩ => exact (Nat.zero_add _).symm
      | ⟨1, _⟩ => show 1 = 1 + j.val; omega
    · match b with
      | ⟨0, _⟩ => rfl
      | ⟨1, _⟩ => exact absurd rfl hb

/-- THE NODE FEATURES on real arrays: the product with the layer's matrix. -/
theorem dense_up (x : Fin 10000 → Fin 128 → ℝ) (W : Fin 128 → Fin 128 → ℝ) : k3_pay1 (up2 x) (up2 W) = up2 (mm x W) :=
  matmul_up _ rfl none x W

/-- The source nodes' share of the logits on real arrays. -/
theorem denseLeft_up (x : Fin 10000 → Fin 128 → ℝ) (W : Fin 128 → Fin 128 → ℝ) (al ar : Fin 128 → ℝ) :
    k3_pay2 (up2 x) (up2 W) (weightCols (up1 al) (up1 ar)) = up2 (fun n (_ : Fin 1) => mv (mm x W) al n) := by
  unfold k3_pay2
  dsimp only
  rw [dense_up, shapeCast_self, weightCols_left]
  exact matmul_up _ rfl none _ _

/-- The target nodes' share of the logits on real arrays. -/
theorem denseRight_up (x : Fin 10000 → Fin 128 → ℝ) (W : Fin 128 → Fin 128 → ℝ) (al ar : Fin 128 → ℝ) :
    k3_pay3 (up2 x) (up2 W) (weightCols (up1 al) (up1 ar)) = up2 (fun n (_ : Fin 1) => mv (mm x W) ar n) := by
  unfold k3_pay3
  dsimp only
  rw [dense_up, shapeCast_self, weightCols_right]
  exact matmul_up _ rfl none _ _

/-! ## The division by the sums of the weights -/

/-- Two matrices one behind the other. -/
def stacked {a b : ℕ} (h1 : (⟨2, ![a, b]⟩ : Shape).BroadcastsInDim ⟨3, ![1, a, b]⟩ ![1, 2])
    (h2 : Shape.Concatenates [(⟨3, ![1, a, b]⟩ : Shape), ⟨3, ![1, a, b]⟩] ⟨3, ![2, a, b]⟩ 0) (x y : FVec Ideal ⟨2, ![a, b]⟩ .f32) :
    FVec Ideal ⟨3, ![2, a, b]⟩ .f32 :=
  concatenate ⟨3, ![2, a, b]⟩ 0 [⟨⟨3, ![1, a, b]⟩, broadcastInDim ⟨3, ![1, a, b]⟩ ![1, 2] h1 x⟩, ⟨⟨3, ![1, a, b]⟩, broadcastInDim ⟨3, ![1, a, b]⟩ ![1, 2] h1 y⟩] h2

/-- A matrix under a leading unit axis, read at its coordinates. -/
theorem under_axis {α : Type} {a b : ℕ} (h1 : (⟨2, ![a, b]⟩ : Shape).BroadcastsInDim ⟨3, ![1, a, b]⟩ ![1, 2])
    (x : (⟨2, ![a, b]⟩ : Shape).Idx → α) (i : Fin a) (j : Fin b) :
    broadcastInDim ⟨3, ![1, a, b]⟩ ![1, 2] h1 x (ix3 0 i j) = x (ix2 i j) := by
  refine broadcastInDim_apply _ h1 x _ _ fun e => ?_
  match e with
  | ⟨0, _⟩ =>
    show i.val = if a = 1 then 0 else i.val
    split
    · omega
    · rfl
  | ⟨1, _⟩ =>
    show j.val = if b = 1 then 0 else j.val
    split
    · omega
    · rfl

/-- The first of two stacked matrices, loaded. -/
theorem stacked_first {a b : ℕ} (h1 h2) (x y : FVec Ideal ⟨2, ![a, b]⟩ .f32)
    (inb : ∀ e, (![0, 0, 0] : Fin 3 → ℕ) e + (⟨3, ![1, a, b]⟩ : Shape).size e ≤ (⟨3, ![2, a, b]⟩ : Shape).size e)
    (hc : (⟨3, ![1, a, b]⟩ : Shape).ShapeCasts ⟨2, ![a, b]⟩) :
    shapeCast ⟨2, ![a, b]⟩ (View.ld (Val := Elt Ideal) (e' := .f32) (stacked h1 h2 x y) (Rect.unit (s := ⟨3, ![2, a, b]⟩) ![0, 0, 0] (⟨3, ![1, a, b]⟩ : Shape).size inb)) hc = x :=
  ext2 fun i j => by
    refine (shapeCast_apply _ hc (ix2 i j) (ix3 0 i j) ?_).trans ?_
    · rw [Shape.rowMajor_val_two, Shape.rowMajor_val_three]
      show (0 * a + i.val) * b + j.val = i.val * b + j.val
      rw [Nat.zero_mul, Nat.zero_add]
    · show stacked h1 h2 x y _ = _
      refine (concatenate_pair_apply_left (t := ⟨3, ![2, a, b]⟩) (s₁ := ⟨3, ![1, a, b]⟩) (s₂ := ⟨3, ![1, a, b]⟩) 0 _ _ h2 _ rfl (ix3 0 i j) fun e => ?_).trans (under_axis h1 x i j)
      match e with
      | ⟨0, _⟩ => rfl
      | ⟨1, _⟩ => show i.val = 0 + 1 * i.val; omega
      | ⟨2, _⟩ => show j.val = 0 + 1 * j.val; omega

/-- The second of two stacked matrices, loaded. -/
theorem stacked_second {a b : ℕ} (h1 h2) (x y : FVec Ideal ⟨2, ![a, b]⟩ .f32)
    (inb : ∀ e, (![1, 0, 0] : Fin 3 → ℕ) e + (⟨3, ![1, a, b]⟩ : Shape).size e ≤ (⟨3, ![2, a, b]⟩ : Shape).size e)
    (hc : (⟨3, ![1, a, b]⟩ : Shape).ShapeCasts ⟨2, ![a, b]⟩) :
    shapeCast ⟨2, ![a, b]⟩ (View.ld (Val := Elt Ideal) (e' := .f32) (stacked h1 h2 x y) (Rect.unit (s := ⟨3, ![2, a, b]⟩) ![1, 0, 0] (⟨3, ![1, a, b]⟩ : Shape).size inb)) hc = y :=
  ext2 fun i j => by
    refine (shapeCast_apply _ hc (ix2 i j) (ix3 0 i j) ?_).trans ?_
    · rw [Shape.rowMajor_val_two, Shape.rowMajor_val_three]
      show (0 * a + i.val) * b + j.val = i.val * b + j.val
      rw [Nat.zero_mul, Nat.zero_add]
    · show stacked h1 h2 x y _ = _
      refine (concatenate_apply_piece (t := ⟨3, ![2, a, b]⟩) 0 _ _ _ 1 (by simp) ⟨3, ![1, a, b]⟩ _ rfl rfl 1 rfl (ix3 0 i j) (fun e he => ?_) rfl).trans (under_axis h1 y i j)
      match e with
      | ⟨0, _⟩ => exact absurd rfl he
      | ⟨1, _⟩ => show i.val = 0 + 1 * i.val; omega
      | ⟨2, _⟩ => show j.val = 0 + 1 * j.val; omega

/-- The features' sums, the weights' sum and padding, side by side. -/
def sideBySide (edge : FVec Ideal S10000x16 .f32) (den : FVec Ideal S10000 .f32) : FVec Ideal S10000x32 .f32 :=
  concatenate S10000x32 1 [⟨S10000x16, edge⟩, ⟨S10000x1, broadcastInDim S10000x1 ![0] bcast_S10000_S10000x1_0 den⟩,
    ⟨S10000x15, broadcastInDim S10000x15 ![] bcast_S_S10000x15 (constant (F := Ideal) S_ .f32 0x00000000#32)⟩]
    concatenates_S10000x16_S10000x1_S10000x15_S10000x32_d1

theorem sideBySide_edge (edge : FVec Ideal S10000x16 .f32) (den : FVec Ideal S10000 .f32) (n : Fin 10000) (k : Fin 16) :
    sideBySide edge den (ix2 n ⟨k.val, by omega⟩) = edge (ix2 n k) :=
  concatenate_apply_piece (t := S10000x32) 1 _ _ _ 0 (by simp) S10000x16 _ rfl rfl 0 rfl (ix2 n k) (fun b hb => by
    match b with
    | ⟨0, _⟩ => rfl
    | ⟨1, _⟩ => exact absurd rfl hb) (Nat.zero_add _)

theorem sideBySide_den (edge : FVec Ideal S10000x16 .f32) (den : FVec Ideal S10000 .f32) (n : Fin 10000) :
    sideBySide edge den (ix2 n 16) = den (ix1 n) :=
  (concatenate_apply_piece (t := S10000x32) 1 _ _ _ 1 (by simp) S10000x1 _ rfl rfl 16 rfl (ix2 n 0) (fun b hb => by
    match b with
    | ⟨0, _⟩ => rfl
    | ⟨1, _⟩ => exact absurd rfl hb) rfl).trans (as_col _ _ n 0)

/-- Adding an array of zeros changes nothing. -/
theorem add_zeros {s : Shape} (x z : FVec Ideal s .f32) (hz : ∀ i, z i = 0) : addf x z = x :=
  funext fun i => (congrArg (x i + ·) (hz i)).trans (add_zero (x i))

/-- The last launch of a layer: the messages' sums, completed by the edge features' sums through the layer's matrix, over the
    sums of the weights, plus the bias; the partial sums arrive in two halves, of which the second is zero. -/
def combine (num : FVec Ideal S10000x128 .f32) (edge : FVec Ideal S10000x16 .f32) (den : FVec Ideal S10000 .f32)
    (We : FVec Ideal S16x128 .f32) (b : FVec Ideal S128 .f32) : FVec Ideal S10000x128 .f32 :=
  let st : Vec Ideal S2x10000x128 .f32 := stacked bcast_S10000x128_S1x10000x128_1_2 concatenates_S1x10000x128_S1x10000x128_S2x10000x128_d0 num
    (broadcastInDim S10000x128 ![] bcast_S_S10000x128 (constant (F := Ideal) S_ .f32 0x00000000#32))
  let su : Vec Ideal S2x10000x32 .f32 := stacked bcast_S10000x32_S1x10000x32_1_2 concatenates_S1x10000x32_S1x10000x32_S2x10000x32_d0 (sideBySide edge den)
    (broadcastInDim S10000x32 ![] bcast_S_S10000x32 (constant (F := Ideal) S_ .f32 0x00000000#32))
  k10_pay1 (View.ld st (Rect.unit (s := S2x10000x128) ![0, 0, 0] S1x10000x128.size inb_S2x10000x128_S1x10000x128_0_0_0))
    (View.ld st (Rect.unit (s := S2x10000x128) ![1, 0, 0] S1x10000x128.size inb_S2x10000x128_S1x10000x128_1_0_0))
    (View.ld su (Rect.unit (s := S2x10000x32) ![0, 0, 0] S1x10000x32.size inb_S2x10000x32_S1x10000x32_0_0_0))
    (View.ld su (Rect.unit (s := S2x10000x32) ![1, 0, 0] S1x10000x32.size inb_S2x10000x32_S1x10000x32_1_0_0))
    We (shapeCast S1x128 b shapeCasts_S128_S1x128)

/-- THE LAST LAUNCH OF A LAYER on real arrays. -/
theorem combine_up (num : Fin 10000 → Fin 128 → ℝ) (edge : Fin 10000 → Fin 16 → ℝ) (den : Fin 10000 → ℝ) (We : Fin 16 → Fin 128 → ℝ)
    (b : FVec Ideal S128 .f32) :
    combine (up2 num) (up2 edge) (up1 den) (up2 We) b
      = biased (fun n h => (num n h + ∑ k, edge n k * We k h) / max (den n) guard) b := by
  have hz1 : ∀ i, broadcastInDim S10000x128 ![] bcast_S_S10000x128 (constant (F := Ideal) S_ .f32 0x00000000#32) i = 0 := fun _ =>
    Ideal.ofBits_zero_f32
  have hz2 : ∀ i, broadcastInDim S10000x32 ![] bcast_S_S10000x32 (constant (F := Ideal) S_ .f32 0x00000000#32) i = 0 := fun _ =>
    Ideal.ofBits_zero_f32
  have he : extractStridedSlice S10000x16 ![0, 0] (sideBySide (up2 edge) (up1 den)) slices_S10000x32_o0_0_S10000x16 = up2 edge :=
    ext2 fun n k => (extractStridedSlice_apply _ _ _ (ix2 n k) (ix2 n ⟨k.val, by omega⟩) fun a => by
      match a with
      | ⟨0, _⟩ => exact (Nat.zero_add _).symm
      | ⟨1, _⟩ => exact (Nat.zero_add _).symm).trans (sideBySide_edge _ _ n k)
  have hd : extractStridedSlice S10000x1 ![0, 16] (sideBySide (up2 edge) (up1 den)) slices_S10000x32_o0_16_S10000x1 = up2 (fun n _ => den n) :=
    ext2 fun n j => (extractStridedSlice_apply _ _ _ (ix2 n j) (ix2 n 16) fun a => by
      match a with
      | ⟨0, _⟩ => exact (Nat.zero_add _).symm
      | ⟨1, _⟩ => show 16 = 16 + j.val; omega).trans (sideBySide_den _ _ n)
  unfold combine k10_pay1
  dsimp only
  rw [stacked_first, stacked_second, stacked_first, stacked_second, add_zeros _ _ hz1, add_zeros _ _ hz2, he, hd, shapeCast_self]
  have hm := matmul_up dot_S10000x16_S16x128_S10000x128_1_0_0_1_n_n rfl none edge We
  refine (congrArg (fun y => addf (divf (addf (up2 num) y) _) _) hm).trans ?_
  rw [add2_up]
  refine ext2 fun n h => ?_
  have hb : broadcastTo S10000x128 (shapeCast S1x128 b shapeCasts_S128_S1x128) broadcasts_S1x128_S10000x128 (ix2 n h) = b (ix1 h) := by
    refine (broadcastTo_apply _ _ (ix2 n h) (ix2 0 h) fun a => ?_).trans (row_apply b _ 0 h)
    match a with
    | ⟨0, _⟩ => rfl
    | ⟨1, _⟩ => rfl
  have hx : broadcastTo S10000x128 (maximumf (up2 fun n (_ : Fin 1) => den n) (broadcast S10000x1 (Scalar.ofBits (F := Ideal) .f32 0x3089705F#32)))
      broadcasts_S10000x1_S10000x128 (ix2 n h) = ((max (den n) guard : ℝ) : EReal) := by
    refine (broadcastTo_apply _ _ (ix2 n h) (ix2 n 0) fun a => ?_).trans ?_
    · match a with
      | ⟨0, _⟩ => rfl
      | ⟨1, _⟩ => rfl
    · show max ((den n : ℝ) : EReal) (Ideal.ofBits .f32 0x3089705F#32) = _
      rw [ofBits_guard, ← coe_max]
  show Ideal.div _ (broadcastTo S10000x128 _ _ (ix2 n h)) + broadcastTo S10000x128 _ _ (ix2 n h) = _
  rw [hb, hx, up2_ix, coe_div (lt_of_lt_of_le guard_pos (le_max_right _ _)).ne']
  rfl

end Gat

end
-- ==== Proof.KerLayer.lean ====
/- The kernel's layer, as the composition of its launches and the array operations between them (`kerLayer`), and what it is on
   arrays of real numbers: the layer `Gat.layer` plus the bias (`kerLayer_up`), where the logits' parts are bounded. -/
module

public import proofs.«01_k».proof.Proof.KerRegions

@[expose] public section

noncomputable section

open scoped BigOperators

namespace Gat

open Idealize.ShloMosaic Idealize.ShloMosaic.ValueIdx Cert.KernelIdeal Cert.KernelIdeal.Gen

/-- A vector of node numbers as the column of a look-up: negative numbers wrapped round. -/
def kerWrap (x : IVec S320000 32) : IVec S320000x1 32 :=
  broadcastInDim S320000x1 ![0] bcast_S320000_S320000x1_0 (select (cmpi .slt x (broadcastInDim S320000 ![] bcast_S_S320000 (constantI S_ 32 0#32))) (addi x (broadcastInDim S320000 ![] bcast_S_S320000 (constantI S_ 32 10000#32))) x)

/-- The logits before the rectifier, from the two columns of node terms and the edge terms. -/
def kerRaw (el er : FVec Ideal S10000x1 .f32) (et : FVec Ideal S320000 .f32) (src dst : IVec S320000 32) : FVec Ideal S320000 .f32 :=
  addf (addf (Host.gather gather_S10000_S320000x1_S320000_n_0_n_n_0_1_1 (shapeCast S10000 el shapeCasts_S10000x1_S10000) (kerWrap src))
    (Host.gather gather_S10000_S320000x1_S320000_n_0_n_n_0_1_1 (shapeCast S10000 er shapeCasts_S10000x1_S10000) (kerWrap dst))) et

/-- The leaky rectifier of the logits. -/
def kerLeaky (raw : FVec Ideal S320000 .f32) : FVec Ideal S320000 .f32 :=
  select (cmpf .ogt raw (broadcastInDim S320000 ![] bcast_S_S320000 (constant S_ .f32 0x00000000#32))) raw (mulf (broadcastInDim S320000 ![] bcast_S_S320000 (constant S_ .f32 0x3E4CCCCD#32)) raw)

/-- The sources' features, weighted and accumulated into the targets. -/
def kerNum (ft : FVec Ideal S10000x128 .f32) (ex : FVec Ideal S320000 .f32) (src dst : IVec S320000 32) : FVec Ideal S10000x128 .f32 :=
  Host.scatterAdd scatter_S10000x128_S320000x1_S320000x128_1_0_0_1 (broadcastInDim S10000x128 ![] bcast_S_S10000x128 (constant S_ .f32 0x00000000#32)) (broadcastInDim S320000x1 ![0] bcast_S320000_S320000x1_0 dst)
    (mulf (broadcastInDim S320000x128 ![0, 1] bcast_S320000x1_S320000x128_0_1 (broadcastInDim S320000x1 ![0] bcast_S320000_S320000x1_0 ex)) (Host.gather gather_S10000x128_S320000x1_S320000x128_1_0_n_n_0_1_1128 ft (kerWrap src)))

/-- The edges' features, weighted and accumulated into the targets. -/
def kerEdge (ein : FVec Ideal S320000x16 .f32) (ex : FVec Ideal S320000 .f32) (dst : IVec S320000 32) : FVec Ideal S10000x16 .f32 :=
  Host.scatterAdd scatter_S10000x16_S320000x1_S320000x16_1_0_0_1 (broadcastInDim S10000x16 ![] bcast_S_S10000x16 (constant S_ .f32 0x00000000#32)) (broadcastInDim S320000x1 ![0] bcast_S320000_S320000x1_0 dst)
    (mulf (broadcastInDim S320000x16 ![0, 1] bcast_S320000x1_S320000x16_0_1 (broadcastInDim S320000x1 ![0] bcast_S320000_S320000x1_0 ex)) ein)

/-- The weights accumulated into the targets. -/
def kerDen (ex : FVec Ideal S320000 .f32) (dst : IVec S320000 32) : FVec Ideal S10000 .f32 :=
  Host.scatterAdd scatter_S10000_S320000x1_S320000_n_0_0_1 (broadcastInDim S10000 ![] bcast_S_S10000 (constant S_ .f32 0x00000000#32)) (broadcastInDim S320000x1 ![0] bcast_S320000_S320000x1_0 dst) ex

/-- What follows the exponentials in a layer. -/
def kerOut (ft : FVec Ideal S10000x128 .f32) (ein : FVec Ideal S320000x16 .f32) (ex : FVec Ideal S320000 .f32) (We : FVec Ideal S16x128 .f32)
    (b : FVec Ideal S128 .f32) (src dst : IVec S320000 32) : FVec Ideal S10000x128 .f32 :=
  combine (kerNum ft ex src dst) (kerEdge ein ex dst) (kerDen ex dst) We b

/-- One layer of the kernel, from its inputs and the edge terms. -/
def kerLayer (src dst : IVec S320000 32) (ein : FVec Ideal S320000x16 .f32) (et : FVec Ideal S320000 .f32) (x : FVec Ideal S10000x128 .f32)
    (W : FVec Ideal S128x128 .f32) (We : FVec Ideal S16x128 .f32) (al ar b : FVec Ideal S128 .f32) : FVec Ideal S10000x128 .f32 :=
  kerOut (k3_pay1 x W) ein (Host.exp (kerLeaky (kerRaw (k3_pay2 x W (weightCols al ar)) (k3_pay3 x W (weightCols al ar)) et src dst))) We b src dst

/-! ## The pieces on real arrays -/

variable {src dst : IVec S320000 32} {s d : Fin 320000 → Fin 10000} {l : Fin 320000 → Option (Fin 10000)}

/-- The look-up column of a vector of words reads the nodes they name. -/
theorem kerWrap_holds (h : Names src s) : Holds (kerWrap src) s := h.look _ _ _ (fun _ => rfl) fun _ => rfl

theorem kerRaw_up (hs : Names src s) (hd : Names dst d) (el er : Fin 10000 → ℝ) (et : Fin 320000 → ℝ) :
    kerRaw (up2 fun n _ => el n) (up2 fun n _ => er n) (up1 et) src dst = up1 (fun e => el (s e) + er (d e) + et e) := by
  unfold kerRaw
  rw [uncolumn_up, uncolumn_up, take_up _ rfl rfl rfl rfl _ _ s (kerWrap_holds hs) (by norm_num),
    take_up _ rfl rfl rfl rfl _ _ d (kerWrap_holds hd) (by norm_num), add1_up, add1_up]

theorem kerLeaky_up (f : Fin 320000 → ℝ) : kerLeaky (up1 f) = up1 (fun e => leaky slope (f e)) := leaky_up f _

/-- A vector repeated along the columns. -/
theorem alongCols_up {A B : ℕ} (h1 : (⟨1, ![A]⟩ : Shape).BroadcastsInDim ⟨2, ![A, 1]⟩ ![0])
    (h2 : (⟨2, ![A, 1]⟩ : Shape).BroadcastsInDim ⟨2, ![A, B]⟩ ![0, 1]) (v : Fin A → ℝ) :
    broadcastInDim ⟨2, ![A, B]⟩ ![0, 1] h2 (broadcastInDim ⟨2, ![A, 1]⟩ ![0] h1 (up1 v)) = up2 (fun i _ => v i) :=
  ext2 fun i j => spread_rows h1 h2 (up1 v) i j

theorem kerNum_up (hs : Names src s) (hl : Ends dst l) (ft : Fin 10000 → Fin 128 → ℝ) (ex : Fin 320000 → ℝ) :
    kerNum (up2 ft) (up1 ex) src dst = up2 (fun n h => ∑ e with l e = some n, ex e * ft (s e) h) := by
  have hz : ∀ i, broadcastInDim S10000x128 ![] bcast_S_S10000x128 (constant (F := Ideal) S_ .f32 0x00000000#32) i = 0 := fun _ =>
    Ideal.ofBits_zero_f32
  unfold kerNum
  rw [alongCols_up, takeRows_up _ rfl rfl rfl rfl rfl _ _ s (kerWrap_holds hs) (by norm_num), mul2_up,
    accRows_up scatter_S10000x128_S320000x1_S320000x128_1_0_0_1 ⟨_, rfl⟩ _ hz _ l (hl.col _)]

theorem kerEdge_up (hl : Ends dst l) (ein : Fin 320000 → Fin 16 → ℝ) (ex : Fin 320000 → ℝ) :
    kerEdge (up2 ein) (up1 ex) dst = up2 (fun n k => ∑ e with l e = some n, ex e * ein e k) := by
  have hz : ∀ i, broadcastInDim S10000x16 ![] bcast_S_S10000x16 (constant (F := Ideal) S_ .f32 0x00000000#32) i = 0 := fun _ =>
    Ideal.ofBits_zero_f32
  unfold kerEdge
  rw [alongCols_up, mul2_up, accRows_up scatter_S10000x16_S320000x1_S320000x16_1_0_0_1 ⟨_, rfl⟩ _ hz _ l (hl.col _)]

theorem kerDen_up (hl : Ends dst l) (ex : Fin 320000 → ℝ) : kerDen (up1 ex) dst = up1 (fun n => ∑ e with l e = some n, ex e) := by
  have hz : ∀ i, broadcastInDim S10000 ![] bcast_S_S10000 (constant (F := Ideal) S_ .f32 0x00000000#32) i = 0 := fun _ =>
    Ideal.ofBits_zero_f32
  unfold kerDen
  rw [acc_up scatter_S10000_S320000x1_S320000_n_0_0_1 ⟨_, rfl⟩ _ hz _ l (hl.col _)]

/-- THE KERNEL'S LAYER on real arrays is `Gat.layer` plus the bias, where every logit's parts are at most 30. -/
theorem kerLayer_up (hs : Names src s) (hd : Names dst d) (hE : Ends dst l) (ein : Fin 320000 → Fin 16 → ℝ) (x : Fin 10000 → Fin 128 → ℝ)
    (W : Fin 128 → Fin 128 → ℝ) (We : Fin 16 → Fin 128 → ℝ) (al ar ae : Fin 128 → ℝ) (b : FVec Ideal S128 .f32)
    (hl : ∀ n, |mv (mm x W) al n| ≤ 30) (hr : ∀ n, |mv (mm x W) ar n| ≤ 30) (he : ∀ e, |mv (mm ein We) ae e| ≤ 30) :
    kerLayer src dst (up2 ein) (up1 (mv (mm ein We) ae)) (up2 x) (up2 W) (up2 We) (up1 al) (up1 ar) b
      = biased (layer slope s d l ein x W We al ar ae) b := by
  unfold kerLayer kerOut
  rw [dense_up, denseLeft_up, denseRight_up, kerRaw_up hs hd, kerLeaky_up, exp1_up, kerNum_up hs hE, kerEdge_up hE, kerDen_up hE, combine_up]
  refine congrArg (fun f => biased f b) (funext fun n => funext fun h => ?_)
  exact kernel_form s l (mm x W) ein We (fun e => leaky slope (logit s d (mm x W) (mm ein We) al ar ae e)) guard
    (fun e => guard_le.trans (exp_leaky_ge slope slope_nonneg slope_le s d (mm x W) (mm ein We) al ar ae hl hr he e)) n h

end Gat

end
-- ==== Proof.KerHost.lean ====
/- What the array operations between the kernel's launches compute, from any contents `V` of the buffers that they read. -/
module

public import proofs.«01_k».proof.Proof.KerLayer
public import proofs.«01_k».proof.Proof.Gen.KernelIdeal.Launch
public import Idealize.ShloMosaic.Lib.StableHlo.RunRead

@[expose] public section

set_option maxRecDepth 16384

noncomputable section

namespace Gat

open Idealize.ShloMosaic Idealize.ShloMosaic.TcCoe Idealize.ShloMosaic.StableHlo Cert.KernelIdeal Cert.KernelIdeal.Gen

/-- Row 0 of the edge list: the source nodes. -/
def kerSrc (a1 : IVec S2x320000 32) : IVec S320000 32 :=
  shapeCast _ (extractStridedSlice S1x320000 ![0, 0] a1 slices_S2x320000_S1x320000_0_0) shapeCasts_S1x320000_S320000

/-- Row 1 of the edge list: the target nodes. -/
def kerDst (a1 : IVec S2x320000 32) : IVec S320000 32 :=
  shapeCast _ (extractStridedSlice S1x320000 ![1, 0] a1 slices_S2x320000_S1x320000_1_0) shapeCasts_S1x320000_S320000

/-- The messages' sums over an array of zeros, as the last launch of a layer reads them. -/
def messages (ft : FVec Ideal S10000x128 .f32) (ex : FVec Ideal S320000 .f32) (src dst : IVec S320000 32) : FVec Ideal S2x10000x128 .f32 :=
  stacked bcast_S10000x128_S1x10000x128_1_2 concatenates_S1x10000x128_S1x10000x128_S2x10000x128_d0 (kerNum ft ex src dst)
    (broadcastInDim S10000x128 ![] bcast_S_S10000x128 (constant (F := Ideal) S_ .f32 0x00000000#32))

/-- The edge features' sums beside the weights' sums, over an array of zeros, as the last launch of a layer reads them. -/
def weights (ein : FVec Ideal S320000x16 .f32) (ex : FVec Ideal S320000 .f32) (dst : IVec S320000 32) : FVec Ideal S2x10000x32 .f32 :=
  stacked bcast_S10000x32_S1x10000x32_1_2 concatenates_S1x10000x32_S1x10000x32_S2x10000x32_d0 (sideBySide (kerEdge ein ex dst) (kerDen ex dst))
    (broadcastInDim S10000x32 ![] bcast_S_S10000x32 (constant (F := Ideal) S_ .f32 0x00000000#32))

variable (V : Valuation τ sig (Elt Ideal))

/-- The operations before the first launch: the rows of the edge list, the edge features eight to a row, the weights as a column. -/
theorem first : after hostOps0 V (Proc.devRef .tc main_v1) = kerSrc (V (Proc.devRef .tc main_arg1))
    ∧ after hostOps0 V (Proc.devRef .tc main_v3) = kerDst (V (Proc.devRef .tc main_arg1))
    ∧ after hostOps0 V (Proc.devRef .tc main_v4) = shapeCast S40000x128 (V (Proc.devRef .tc main_arg2)) shapeCasts_S320000x16_S40000x128
    ∧ after hostOps0 V (Proc.devRef .tc main_v5) = shapeCast S128x1 (V (Proc.devRef .tc main_arg7)) shapeCasts_S128_S128x1 := by
  refine ⟨?_, ?_, ?_, ?_⟩ <;> (after_reads_simp; rfl)

/-- The operations between the first and the second launch. -/
theorem second : after hostOps1 V (Proc.devRef .tc main_v7) = shapeCast S320000 (V (Proc.devRef .tc main_v6)) shapeCasts_S40000x8_S320000
    ∧ after hostOps1 V (Proc.devRef .tc main_v8) = shapeCast S40000x128 (V (Proc.devRef .tc main_arg2)) shapeCasts_S320000x16_S40000x128
    ∧ after hostOps1 V (Proc.devRef .tc main_v9) = shapeCast S128x1 (V (Proc.devRef .tc main_arg13)) shapeCasts_S128_S128x1 := by
  refine ⟨?_, ?_, ?_⟩ <;> (after_reads_simp; rfl)

/-- The operations between the second and the third launch. -/
theorem third : after hostOps2 V (Proc.devRef .tc main_v11) = shapeCast S320000 (V (Proc.devRef .tc main_v10)) shapeCasts_S40000x8_S320000
    ∧ after hostOps2 V (Proc.devRef .tc main_v12) = shapeCast S40000x128 (V (Proc.devRef .tc main_arg2)) shapeCasts_S320000x16_S40000x128
    ∧ after hostOps2 V (Proc.devRef .tc main_v13) = shapeCast S128x1 (V (Proc.devRef .tc main_arg19)) shapeCasts_S128_S128x1 := by
  refine ⟨?_, ?_, ?_⟩ <;> (after_reads_simp; rfl)

/-- The operations before the first layer's product: the edge terms of the last layer, and the two columns of weights. -/
theorem columns3 : after hostOps3 V (Proc.devRef .tc main_v15) = shapeCast S320000 (V (Proc.devRef .tc main_v14)) shapeCasts_S40000x8_S320000
    ∧ after hostOps3 V (Proc.devRef .tc main_v18) = weightCols (V (Proc.devRef .tc main_arg5)) (V (Proc.devRef .tc main_arg6)) := by
  refine ⟨?_, ?_⟩ <;> (after_reads_simp; rfl)

/-- The two columns of weights of launch 5. -/
theorem columns5 : after hostOps5 V (Proc.devRef .tc main_v81) = weightCols (V (Proc.devRef .tc main_arg11)) (V (Proc.devRef .tc main_arg12)) := by
  after_reads_simp
  rfl

/-- The two columns of weights of launch 7. -/
theorem columns7 : after hostOps7 V (Proc.devRef .tc main_v144) = weightCols (V (Proc.devRef .tc main_arg11)) (V (Proc.devRef .tc main_arg12)) := by
  after_reads_simp
  rfl

/-- The two columns of weights of launch 9. -/
theorem columns9 : after hostOps9 V (Proc.devRef .tc main_v207) = weightCols (V (Proc.devRef .tc main_arg17)) (V (Proc.devRef .tc main_arg18)) := by
  after_reads_simp
  rfl

/-- The rectified logits of layer 1. -/
theorem logits4 : after hostOps4_1 (after hostOps4 V) (Proc.devRef .tc main_v42)
    = kerLeaky (kerRaw (V (Proc.devRef .tc main_v19_1)) (V (Proc.devRef .tc main_v19_2)) (V (Proc.devRef .tc main_v7)) (V (Proc.devRef .tc main_v1)) (V (Proc.devRef .tc main_v3))) := by
  after_reads_simp
  rfl

/-- What the last launch of layer 1 reads. -/
theorem sums4 : after hostOps4_2 V (Proc.devRef .tc main_v73) = messages (V (Proc.devRef .tc main_v19_0)) (Host.exp (V (Proc.devRef .tc main_v42))) (V (Proc.devRef .tc main_v1)) (V (Proc.devRef .tc main_v3))
    ∧ after hostOps4_2 V (Proc.devRef .tc main_v76) = weights (V (Proc.devRef .tc main_arg2)) (Host.exp (V (Proc.devRef .tc main_v42))) (V (Proc.devRef .tc main_v3))
    ∧ after hostOps4_2 V (Proc.devRef .tc main_v77) = shapeCast S1x128 (V (Proc.devRef .tc main_arg8)) shapeCasts_S128_S1x128 := by
  refine ⟨?_, ?_, ?_⟩ <;> (after_reads_simp; rfl)

/-- The rectified logits of layer 2. -/
theorem logits6 : after hostOps6_1 (after hostOps6 V) (Proc.devRef .tc main_v105)
    = kerLeaky (kerRaw (V (Proc.devRef .tc main_v82_1)) (V (Proc.devRef .tc main_v82_2)) (V (Proc.devRef .tc main_v11)) (V (Proc.devRef .tc main_v1)) (V (Proc.devRef .tc main_v3))) := by
  after_reads_simp
  rfl

/-- What the last launch of layer 2 reads. -/
theorem sums6 : after hostOps6_2 V (Proc.devRef .tc main_v136) = messages (V (Proc.devRef .tc main_v82_0)) (Host.exp (V (Proc.devRef .tc main_v105))) (V (Proc.devRef .tc main_v1)) (V (Proc.devRef .tc main_v3))
    ∧ after hostOps6_2 V (Proc.devRef .tc main_v139) = weights (V (Proc.devRef .tc main_arg2)) (Host.exp (V (Proc.devRef .tc main_v105))) (V (Proc.devRef .tc main_v3))
    ∧ after hostOps6_2 V (Proc.devRef .tc main_v140) = shapeCast S1x128 (V (Proc.devRef .tc main_arg14)) shapeCasts_S128_S1x128 := by
  refine ⟨?_, ?_, ?_⟩ <;> (after_reads_simp; rfl)

/-- The rectified logits of layer 3. -/
theorem logits8 : after hostOps8_1 (after hostOps8 V) (Proc.devRef .tc main_v168)
    = kerLeaky (kerRaw (V (Proc.devRef .tc main_v145_1)) (V (Proc.devRef .tc main_v145_2)) (V (Proc.devRef .tc main_v11)) (V (Proc.devRef .tc main_v1)) (V (Proc.devRef .tc main_v3))) := by
  after_reads_simp
  rfl

/-- What the last launch of layer 3 reads. -/
theorem sums8 : after hostOps8_2 V (Proc.devRef .tc main_v199) = messages (V (Proc.devRef .tc main_v145_0)) (Host.exp (V (Proc.devRef .tc main_v168))) (V (Proc.devRef .tc main_v1)) (V (Proc.devRef .tc main_v3))
    ∧ after hostOps8_2 V (Proc.devRef .tc main_v202) = weights (V (Proc.devRef .tc main_arg2)) (Host.exp (V (Proc.devRef .tc main_v168))) (V (Proc.devRef .tc main_v3))
    ∧ after hostOps8_2 V (Proc.devRef .tc main_v203) = shapeCast S1x128 (V (Proc.devRef .tc main_arg14)) shapeCasts_S128_S1x128 := by
  refine ⟨?_, ?_, ?_⟩ <;> (after_reads_simp; rfl)

/-- The rectified logits of layer 4. -/
theorem logits10 : after hostOps10_1 (after hostOps10 V) (Proc.devRef .tc main_v231)
    = kerLeaky (kerRaw (V (Proc.devRef .tc main_v208_1)) (V (Proc.devRef .tc main_v208_2)) (V (Proc.devRef .tc main_v15)) (V (Proc.devRef .tc main_v1)) (V (Proc.devRef .tc main_v3))) := by
  after_reads_simp
  rfl

/-- What the last launch of layer 4 reads. -/
theorem sums10 : after hostOps10_2 V (Proc.devRef .tc main_v262) = messages (V (Proc.devRef .tc main_v208_0)) (Host.exp (V (Proc.devRef .tc main_v231))) (V (Proc.devRef .tc main_v1)) (V (Proc.devRef .tc main_v3))
    ∧ after hostOps10_2 V (Proc.devRef .tc main_v265) = weights (V (Proc.devRef .tc main_arg2)) (Host.exp (V (Proc.devRef .tc main_v231))) (V (Proc.devRef .tc main_v3))
    ∧ after hostOps10_2 V (Proc.devRef .tc main_v266) = shapeCast S1x128 (V (Proc.devRef .tc main_arg20)) shapeCasts_S128_S1x128 := by
  refine ⟨?_, ?_, ?_⟩ <;> (after_reads_simp; rfl)

end Gat

end
-- ==== Proof.KerOut.lean ====
/- What each launch of the kernel leaves in its result arrays, as a function of the arrays it starts from. Every launch has one
   point, whose blocks are the whole arrays. -/
module

public import proofs.«01_k».proof.Proof.KerLayer
public import proofs.«01_k».proof.Proof.Gen.KernelIdeal.Frame.Fold0
public import Idealize.ShloMosaic.Lib.Pipeline.ValueKit

@[expose] public section

set_option maxRecDepth 16384

noncomputable section

namespace Gat

open Idealize.ShloMosaic Idealize.ShloMosaic.TcCoe Cert.KernelIdeal Cert.KernelIdeal.Gen
open Idealize.ShloMosaic.Pipeline (Dat Cfg Window)

/-- The last launch of a layer, from the arrays that it reads. -/
def combineOf (st : Vec Ideal S2x10000x128 .f32) (su : Vec Ideal S2x10000x32 .f32) (We : FVec Ideal S16x128 .f32) (b : FVec Ideal S1x128 .f32) :
    FVec Ideal S10000x128 .f32 :=
  k10_pay1 (View.ld st (Rect.unit (s := S2x10000x128) ![0, 0, 0] S1x10000x128.size inb_S2x10000x128_S1x10000x128_0_0_0))
    (View.ld st (Rect.unit (s := S2x10000x128) ![1, 0, 0] S1x10000x128.size inb_S2x10000x128_S1x10000x128_1_0_0))
    (View.ld su (Rect.unit (s := S2x10000x32) ![0, 0, 0] S1x10000x32.size inb_S2x10000x32_S1x10000x32_0_0_0))
    (View.ld su (Rect.unit (s := S2x10000x32) ![1, 0, 0] S1x10000x32.size inb_S2x10000x32_S1x10000x32_1_0_0)) We b

/-- It is `combine` of stacked partial sums. -/
theorem combine_eq (num : FVec Ideal S10000x128 .f32) (edge : FVec Ideal S10000x16 .f32) (den : FVec Ideal S10000 .f32)
    (We : FVec Ideal S16x128 .f32) (b : FVec Ideal S128 .f32) :
    combineOf (stacked bcast_S10000x128_S1x10000x128_1_2 concatenates_S1x10000x128_S1x10000x128_S2x10000x128_d0 num
      (broadcastInDim S10000x128 ![] bcast_S_S10000x128 (constant (F := Ideal) S_ .f32 0x00000000#32)))
      (stacked bcast_S10000x32_S1x10000x32_1_2 concatenates_S1x10000x32_S1x10000x32_S2x10000x32_d0 (sideBySide edge den)
      (broadcastInDim S10000x32 ![] bcast_S_S10000x32 (constant (F := Ideal) S_ .f32 0x00000000#32)))
      We (shapeCast S1x128 b shapeCasts_S128_S1x128) = combine num edge den We b := rfl

/-- The later layers' products cast their node inputs to the shape they have; the first layer's do not. -/
theorem dense_later (x : FVec Ideal S10000x128 .f32) (W : FVec Ideal S128x128 .f32) : k5_pay1 (F := Ideal) x W = k3_pay1 (F := Ideal) x W :=
  congrArg (fun y => k3_pay1 (F := Ideal) y W) (shapeCast_self x shapeCasts_S10000x128_S10000x128)

theorem denseLeft_later (x : FVec Ideal S10000x128 .f32) (W : FVec Ideal S128x128 .f32) (w : FVec Ideal S128x2 .f32) :
    k5_pay2 (F := Ideal) x W w = k3_pay2 (F := Ideal) x W w := by
  unfold k5_pay2
  rw [dense_later]
  rfl

theorem denseRight_later (x : FVec Ideal S10000x128 .f32) (W : FVec Ideal S128x128 .f32) (w : FVec Ideal S128x2 .f32) :
    k5_pay3 (F := Ideal) x W w = k3_pay3 (F := Ideal) x W w := by
  unfold k5_pay3
  rw [dense_later]
  rfl

variable (V : (c : Dev nD) → (b : Ref sig .tc) → Buf (Elt Ideal) ((c : Thread nD τ).loc b)) (c : Dev nD)

/-- Every window of launch 0 starts at its array's corner. -/
theorem index0 : ∀ t : Fin cfg0.N, win0_0.index t = ![0, 0] ∧ win0_1.index t = ![0, 0] ∧ win0_2.index t = ![0, 0] ∧ win0_3.index t = ![0, 0] :=
  (by decide +kernel : ∀ t : Fin grid0.N, _)

/-- The blocks that launch 0 reads are its arrays. -/
theorem blocks0 : iblk0 V c 0 t0_0 = V c main_v4 ∧ iblk0 V c 1 t0_0 = V c main_arg4 ∧ iblk0 V c 2 t0_0 = V c main_v5 := by
  refine ⟨?_, ?_, ?_⟩ <;> blk_ext! [iblk0, index0 t0_0]

/-- Launch 0 leaves the edge terms of its layer, eight to a row. -/
theorem left0 : (dat0 V c).arrAt 3 cfg0.N = k0_pay1 (V c main_arg4) (V c main_v5) (V c main_v4) := by
  obtain ⟨h0, h1, h2⟩ := blocks0 V c
  exact (dat0 V c).arrAt_eq_of_after_last 3 t0_0 (by decide +kernel) _ fun j => by
    blk_simp
    rw [after0_3]
    unfold out0_3
    frame_out
    rw [h0, h1, h2]

/-- Every window of launch 1 starts at its array's corner. -/
theorem index1 : ∀ t : Fin cfg1.N, win1_0.index t = ![0, 0] ∧ win1_1.index t = ![0, 0] ∧ win1_2.index t = ![0, 0] ∧ win1_3.index t = ![0, 0] :=
  (by decide +kernel : ∀ t : Fin grid1.N, _)

/-- The blocks that launch 1 reads are its arrays. -/
theorem blocks1 : iblk1 V c 0 t1_0 = V c main_v8 ∧ iblk1 V c 1 t1_0 = V c main_arg10 ∧ iblk1 V c 2 t1_0 = V c main_v9 := by
  refine ⟨?_, ?_, ?_⟩ <;> blk_ext! [iblk1, index1 t1_0]

/-- Launch 1 leaves the edge terms of its layer, eight to a row. -/
theorem left1 : (dat1 V c).arrAt 3 cfg1.N = k0_pay1 (V c main_arg10) (V c main_v9) (V c main_v8) := by
  obtain ⟨h0, h1, h2⟩ := blocks1 V c
  exact (dat1 V c).arrAt_eq_of_after_last 3 t1_0 (by decide +kernel) _ fun j => by
    blk_simp
    rw [after1_3]
    unfold out1_3
    frame_out
    rw [h0, h1, h2]
    rfl

/-- Every window of launch 2 starts at its array's corner. -/
theorem index2 : ∀ t : Fin cfg2.N, win2_0.index t = ![0, 0] ∧ win2_1.index t = ![0, 0] ∧ win2_2.index t = ![0, 0] ∧ win2_3.index t = ![0, 0] :=
  (by decide +kernel : ∀ t : Fin grid2.N, _)

/-- The blocks that launch 2 reads are its arrays. -/
theorem blocks2 : iblk2 V c 0 t2_0 = V c main_v12 ∧ iblk2 V c 1 t2_0 = V c main_arg16 ∧ iblk2 V c 2 t2_0 = V c main_v13 := by
  refine ⟨?_, ?_, ?_⟩ <;> blk_ext! [iblk2, index2 t2_0]

/-- Launch 2 leaves the edge terms of its layer, eight to a row. -/
theorem left2 : (dat2 V c).arrAt 3 cfg2.N = k0_pay1 (V c main_arg16) (V c main_v13) (V c main_v12) := by
  obtain ⟨h0, h1, h2⟩ := blocks2 V c
  exact (dat2 V c).arrAt_eq_of_after_last 3 t2_0 (by decide +kernel) _ fun j => by
    blk_simp
    rw [after2_3]
    unfold out2_3
    frame_out
    rw [h0, h1, h2]
    rfl

/-- Every window of launch 3 starts at its array's corner. -/
theorem index3 : ∀ t : Fin cfg3.N, win3_0.index t = ![0, 0] ∧ win3_1.index t = ![0, 0] ∧ win3_2.index t = ![0, 0] ∧ win3_3.index t = ![0, 0] ∧ win3_4.index t = ![0, 0] ∧ win3_5.index t = ![0, 0] :=
  (by decide +kernel : ∀ t : Fin grid3.N, _)

/-- The blocks that launch 3 reads are its arrays. -/
theorem blocks3 : iblk3 V c 0 t3_0 = V c main_arg0 ∧ iblk3 V c 1 t3_0 = V c main_arg3 ∧ iblk3 V c 2 t3_0 = V c main_v18 := by
  refine ⟨?_, ?_, ?_⟩ <;> blk_ext! [iblk3, index3 t3_0]

/-- Launch 3 leaves the products of the node inputs with its layer's matrix and with the two columns of weights. -/
theorem left3 : (dat3 V c).arrAt 3 cfg3.N = k3_pay1 (V c main_arg0) (V c main_arg3)
    ∧ (dat3 V c).arrAt 4 cfg3.N = k3_pay2 (V c main_arg0) (V c main_arg3) (V c main_v18)
    ∧ (dat3 V c).arrAt 5 cfg3.N = k3_pay3 (V c main_arg0) (V c main_arg3) (V c main_v18) := by
  obtain ⟨h0, h1, h2⟩ := blocks3 V c
  refine ⟨(dat3 V c).arrAt_eq_of_after_last 3 t3_0 (by decide +kernel) _ fun j => by
    blk_simp
    rw [after3_3]
    unfold out3_3
    frame_out
    rw [h0, h1],
    (dat3 V c).arrAt_eq_of_after_last 4 t3_0 (by decide +kernel) _ fun j => by
    blk_simp
    rw [after3_4]
    unfold out3_4
    frame_out
    rw [h0, h1, h2],
    (dat3 V c).arrAt_eq_of_after_last 5 t3_0 (by decide +kernel) _ fun j => by
    blk_simp
    rw [after3_5]
    unfold out3_5
    frame_out
    rw [h0, h1, h2]⟩

/-- Every window of launch 5 starts at its array's corner. -/
theorem index5 : ∀ t : Fin cfg5.N, win5_0.index t = ![0, 0] ∧ win5_1.index t = ![0, 0] ∧ win5_2.index t = ![0, 0] ∧ win5_3.index t = ![0, 0] ∧ win5_4.index t = ![0, 0] ∧ win5_5.index t = ![0, 0] :=
  (by decide +kernel : ∀ t : Fin grid5.N, _)

/-- The blocks that launch 5 reads are its arrays. -/
theorem blocks5 : iblk5 V c 0 t5_0 = V c main_v78 ∧ iblk5 V c 1 t5_0 = V c main_arg9 ∧ iblk5 V c 2 t5_0 = V c main_v81 := by
  refine ⟨?_, ?_, ?_⟩ <;> blk_ext! [iblk5, index5 t5_0]

/-- Launch 5 leaves the products of the node inputs with its layer's matrix and with the two columns of weights. -/
theorem left5 : (dat5 V c).arrAt 3 cfg5.N = k3_pay1 (V c main_v78) (V c main_arg9)
    ∧ (dat5 V c).arrAt 4 cfg5.N = k3_pay2 (V c main_v78) (V c main_arg9) (V c main_v81)
    ∧ (dat5 V c).arrAt 5 cfg5.N = k3_pay3 (V c main_v78) (V c main_arg9) (V c main_v81) := by
  obtain ⟨h0, h1, h2⟩ := blocks5 V c
  refine ⟨(dat5 V c).arrAt_eq_of_after_last 3 t5_0 (by decide +kernel) _ fun j => by
    blk_simp
    rw [after5_3]
    unfold out5_3
    frame_out
    rw [h0, h1]
    exact congrFun (dense_later _ _) j,
    (dat5 V c).arrAt_eq_of_after_last 4 t5_0 (by decide +kernel) _ fun j => by
    blk_simp
    rw [after5_4]
    unfold out5_4
    frame_out
    rw [h0, h1, h2]
    exact congrFun (denseLeft_later _ _ _) j,
    (dat5 V c).arrAt_eq_of_after_last 5 t5_0 (by decide +kernel) _ fun j => by
    blk_simp
    rw [after5_5]
    unfold out5_5
    frame_out
    rw [h0, h1, h2]
    exact congrFun (denseRight_later _ _ _) j⟩

/-- Every window of launch 7 starts at its array's corner. -/
theorem index7 : ∀ t : Fin cfg7.N, win7_0.index t = ![0, 0] ∧ win7_1.index t = ![0, 0] ∧ win7_2.index t = ![0, 0] ∧ win7_3.index t = ![0, 0] ∧ win7_4.index t = ![0, 0] ∧ win7_5.index t = ![0, 0] :=
  (by decide +kernel : ∀ t : Fin grid7.N, _)

/-- The blocks that launch 7 reads are its arrays. -/
theorem blocks7 : iblk7 V c 0 t7_0 = V c main_v141 ∧ iblk7 V c 1 t7_0 = V c main_arg9 ∧ iblk7 V c 2 t7_0 = V c main_v144 := by
  refine ⟨?_, ?_, ?_⟩ <;> blk_ext! [iblk7, index7 t7_0]

/-- Launch 7 leaves the products of the node inputs with its layer's matrix and with the two columns of weights. -/
theorem left7 : (dat7 V c).arrAt 3 cfg7.N = k3_pay1 (V c main_v141) (V c main_arg9)
    ∧ (dat7 V c).arrAt 4 cfg7.N = k3_pay2 (V c main_v141) (V c main_arg9) (V c main_v144)
    ∧ (dat7 V c).arrAt 5 cfg7.N = k3_pay3 (V c main_v141) (V c main_arg9) (V c main_v144) := by
  obtain ⟨h0, h1, h2⟩ := blocks7 V c
  refine ⟨(dat7 V c).arrAt_eq_of_after_last 3 t7_0 (by decide +kernel) _ fun j => by
    blk_simp
    rw [after7_3]
    unfold out7_3
    frame_out
    rw [h0, h1]
    exact congrFun (dense_later _ _) j,
    (dat7 V c).arrAt_eq_of_after_last 4 t7_0 (by decide +kernel) _ fun j => by
    blk_simp
    rw [after7_4]
    unfold out7_4
    frame_out
    rw [h0, h1, h2]
    exact congrFun (denseLeft_later _ _ _) j,
    (dat7 V c).arrAt_eq_of_after_last 5 t7_0 (by decide +kernel) _ fun j => by
    blk_simp
    rw [after7_5]
    unfold out7_5
    frame_out
    rw [h0, h1, h2]
    exact congrFun (denseRight_later _ _ _) j⟩

/-- Every window of launch 9 starts at its array's corner. -/
theorem index9 : ∀ t : Fin cfg9.N, win9_0.index t = ![0, 0] ∧ win9_1.index t = ![0, 0] ∧ win9_2.index t = ![0, 0] ∧ win9_3.index t = ![0, 0] ∧ win9_4.index t = ![0, 0] ∧ win9_5.index t = ![0, 0] :=
  (by decide +kernel : ∀ t : Fin grid9.N, _)

/-- The blocks that launch 9 reads are its arrays. -/
theorem blocks9 : iblk9 V c 0 t9_0 = V c main_v204 ∧ iblk9 V c 1 t9_0 = V c main_arg15 ∧ iblk9 V c 2 t9_0 = V c main_v207 := by
  refine ⟨?_, ?_, ?_⟩ <;> blk_ext! [iblk9, index9 t9_0]

/-- Launch 9 leaves the products of the node inputs with its layer's matrix and with the two columns of weights. -/
theorem left9 : (dat9 V c).arrAt 3 cfg9.N = k3_pay1 (V c main_v204) (V c main_arg15)
    ∧ (dat9 V c).arrAt 4 cfg9.N = k3_pay2 (V c main_v204) (V c main_arg15) (V c main_v207)
    ∧ (dat9 V c).arrAt 5 cfg9.N = k3_pay3 (V c main_v204) (V c main_arg15) (V c main_v207) := by
  obtain ⟨h0, h1, h2⟩ := blocks9 V c
  refine ⟨(dat9 V c).arrAt_eq_of_after_last 3 t9_0 (by decide +kernel) _ fun j => by
    blk_simp
    rw [after9_3]
    unfold out9_3
    frame_out
    rw [h0, h1]
    exact congrFun (dense_later _ _) j,
    (dat9 V c).arrAt_eq_of_after_last 4 t9_0 (by decide +kernel) _ fun j => by
    blk_simp
    rw [after9_4]
    unfold out9_4
    frame_out
    rw [h0, h1, h2]
    exact congrFun (denseLeft_later _ _ _) j,
    (dat9 V c).arrAt_eq_of_after_last 5 t9_0 (by decide +kernel) _ fun j => by
    blk_simp
    rw [after9_5]
    unfold out9_5
    frame_out
    rw [h0, h1, h2]
    exact congrFun (denseRight_later _ _ _) j⟩

/-- Every window of launch 4 starts at its array's corner. -/
theorem index4 : ∀ t : Fin cfg4.N, win4_0.index t = ![0, 0, 0] ∧ win4_1.index t = ![0, 0, 0] ∧ win4_2.index t = ![0, 0] ∧ win4_3.index t = ![0, 0] ∧ win4_4.index t = ![0, 0] :=
  (by decide +kernel : ∀ t : Fin grid4.N, _)

/-- The blocks that launch 4 reads are its arrays. -/
theorem blocks4 : iblk4 V c 0 t4_0 = V c main_v73 ∧ iblk4 V c 1 t4_0 = V c main_v76 ∧ iblk4 V c 2 t4_0 = V c main_arg4 ∧ iblk4 V c 3 t4_0 = V c main_v77 := by
  refine ⟨?_, ?_, ?_, ?_⟩ <;> blk_ext! [iblk4, index4 t4_0]

/-- Launch 4 leaves its layer's result, through the hyperbolic tangent. -/
theorem left4 : (dat4 V c).arrAt 4 cfg4.N = tanh (combineOf (V c main_v73) (V c main_v76) (V c main_arg4) (V c main_v77)) := by
  obtain ⟨h0, h1, h2, h3⟩ := blocks4 V c
  exact (dat4 V c).arrAt_eq_of_after_last 4 t4_0 (by decide +kernel) _ fun j => by
    blk_simp
    rw [after4_4]
    unfold out4_4
    frame_out
    rw [h0, h1, h2, h3]
    rfl

/-- Every window of launch 6 starts at its array's corner. -/
theorem index6 : ∀ t : Fin cfg6.N, win6_0.index t = ![0, 0, 0] ∧ win6_1.index t = ![0, 0, 0] ∧ win6_2.index t = ![0, 0] ∧ win6_3.index t = ![0, 0] ∧ win6_4.index t = ![0, 0] :=
  (by decide +kernel : ∀ t : Fin grid6.N, _)

/-- The blocks that launch 6 reads are its arrays. -/
theorem blocks6 : iblk6 V c 0 t6_0 = V c main_v136 ∧ iblk6 V c 1 t6_0 = V c main_v139 ∧ iblk6 V c 2 t6_0 = V c main_arg10 ∧ iblk6 V c 3 t6_0 = V c main_v140 := by
  refine ⟨?_, ?_, ?_, ?_⟩ <;> blk_ext! [iblk6, index6 t6_0]

/-- Launch 6 leaves its layer's result, through the hyperbolic tangent. -/
theorem left6 : (dat6 V c).arrAt 4 cfg6.N = tanh (combineOf (V c main_v136) (V c main_v139) (V c main_arg10) (V c main_v140)) := by
  obtain ⟨h0, h1, h2, h3⟩ := blocks6 V c
  exact (dat6 V c).arrAt_eq_of_after_last 4 t6_0 (by decide +kernel) _ fun j => by
    blk_simp
    rw [after6_4]
    unfold out6_4
    frame_out
    rw [h0, h1, h2, h3]
    rfl

/-- Every window of launch 8 starts at its array's corner. -/
theorem index8 : ∀ t : Fin cfg8.N, win8_0.index t = ![0, 0, 0] ∧ win8_1.index t = ![0, 0, 0] ∧ win8_2.index t = ![0, 0] ∧ win8_3.index t = ![0, 0] ∧ win8_4.index t = ![0, 0] :=
  (by decide +kernel : ∀ t : Fin grid8.N, _)

/-- The blocks that launch 8 reads are its arrays. -/
theorem blocks8 : iblk8 V c 0 t8_0 = V c main_v199 ∧ iblk8 V c 1 t8_0 = V c main_v202 ∧ iblk8 V c 2 t8_0 = V c main_arg10 ∧ iblk8 V c 3 t8_0 = V c main_v203 := by
  refine ⟨?_, ?_, ?_, ?_⟩ <;> blk_ext! [iblk8, index8 t8_0]

/-- Launch 8 leaves its layer's result, through the hyperbolic tangent. -/
theorem left8 : (dat8 V c).arrAt 4 cfg8.N = tanh (combineOf (V c main_v199) (V c main_v202) (V c main_arg10) (V c main_v203)) := by
  obtain ⟨h0, h1, h2, h3⟩ := blocks8 V c
  exact (dat8 V c).arrAt_eq_of_after_last 4 t8_0 (by decide +kernel) _ fun j => by
    blk_simp
    rw [after8_4]
    unfold out8_4
    frame_out
    rw [h0, h1, h2, h3]
    rfl

/-- Every window of launch 10 starts at its array's corner. -/
theorem index10 : ∀ t : Fin cfg10.N, win10_0.index t = ![0, 0, 0] ∧ win10_1.index t = ![0, 0, 0] ∧ win10_2.index t = ![0, 0] ∧ win10_3.index t = ![0, 0] ∧ win10_4.index t = ![0, 0] :=
  (by decide +kernel : ∀ t : Fin grid10.N, _)

/-- The blocks that launch 10 reads are its arrays. -/
theorem blocks10 : iblk10 V c 0 t10_0 = V c main_v262 ∧ iblk10 V c 1 t10_0 = V c main_v265 ∧ iblk10 V c 2 t10_0 = V c main_arg16 ∧ iblk10 V c 3 t10_0 = V c main_v266 := by
  refine ⟨?_, ?_, ?_, ?_⟩ <;> blk_ext! [iblk10, index10 t10_0]

/-- Launch 10 leaves its layer's result. -/
theorem left10 : (dat10 V c).arrAt 4 cfg10.N = combineOf (V c main_v262) (V c main_v265) (V c main_arg16) (V c main_v266) := by
  obtain ⟨h0, h1, h2, h3⟩ := blocks10 V c
  exact (dat10 V c).arrAt_eq_of_after_last 4 t10_0 (by decide +kernel) _ fun j => by
    blk_simp
    rw [after10_4]
    unfold out10_4
    frame_out
    rw [h0, h1, h2, h3]
    rfl

end Gat

end
-- ==== Proof.KerFold.lean ====
/- The kernel's buffers through the run: what the result buffer holds at the end, as four layers of the arguments (`result`). -/
module

public import proofs.«01_k».proof.Proof.KerHost
public import proofs.«01_k».proof.Proof.KerOut

@[expose] public section

set_option maxRecDepth 16384

noncomputable section

namespace Gat

open Idealize.ShloMosaic Idealize.ShloMosaic.TcCoe Idealize.ShloMosaic.StableHlo Cert.KernelIdeal Cert.KernelIdeal.Gen

/-- A layer from what its launches and the operations between them leave. -/
theorem layer_of (src dst : IVec S320000 32) (ein : FVec Ideal S320000x16 .f32) (et : FVec Ideal S320000 .f32) (x : FVec Ideal S10000x128 .f32)
    (W : FVec Ideal S128x128 .f32) (We : FVec Ideal S16x128 .f32) (al ar b : FVec Ideal S128 .f32) {ft : FVec Ideal S10000x128 .f32}
    {el er : FVec Ideal S10000x1 .f32} {lk : FVec Ideal S320000 .f32} {st : FVec Ideal S2x10000x128 .f32} {su : FVec Ideal S2x10000x32 .f32}
    {w : FVec Ideal S128x2 .f32} {bias : FVec Ideal S1x128 .f32} (hw : w = weightCols al ar)
    (hft : ft = k3_pay1 (F := Ideal) x W ∧ el = k3_pay2 (F := Ideal) x W w ∧ er = k3_pay3 (F := Ideal) x W w)
    (hlk : lk = kerLeaky (kerRaw el er et src dst))
    (hsum : st = messages ft (Host.exp lk) src dst ∧ su = weights ein (Host.exp lk) dst ∧ bias = shapeCast S1x128 b shapeCasts_S128_S1x128) :
    combineOf st su We bias = kerLayer src dst ein et x W We al ar b := by
  obtain ⟨rfl, rfl, rfl⟩ := hft
  subst hw hlk
  obtain ⟨rfl, rfl, rfl⟩ := hsum
  rfl

variable (m : (ℓ : Loc nD τ sig) → Buf (Elt Ideal) ℓ) (ρ : Dev nD → PrngReg) (c : Dev nD)

/-- The arrays that several layers read: the two rows of the edge list, and the three layers' edge terms. -/
abbrev shared : List (Ref sig .tc) := [main_v1, main_v3, main_v7, main_v11, main_v15]

/-- What the shared arrays hold: the rows of the edge list, and the edge terms of each of the three parameter sets. -/
def Shared (V : Valuation τ sig (Elt Ideal)) : Prop :=
  V (Proc.devRef .tc main_v1) = kerSrc (m ((c : Thread nD τ).loc main_arg1)) ∧ V (Proc.devRef .tc main_v3) = kerDst (m ((c : Thread nD τ).loc main_arg1))
  ∧ V (Proc.devRef .tc main_v7) = edgeTerm (m ((c : Thread nD τ).loc main_arg2)) (m ((c : Thread nD τ).loc main_arg4)) (m ((c : Thread nD τ).loc main_arg7))
  ∧ V (Proc.devRef .tc main_v11) = edgeTerm (m ((c : Thread nD τ).loc main_arg2)) (m ((c : Thread nD τ).loc main_arg10)) (m ((c : Thread nD τ).loc main_arg13))
  ∧ V (Proc.devRef .tc main_v15) = edgeTerm (m ((c : Thread nD τ).loc main_arg2)) (m ((c : Thread nD τ).loc main_arg16)) (m ((c : Thread nD τ).loc main_arg19))

/-- They hold it still where they are unchanged. -/
theorem Shared.keep {V V' : Valuation τ sig (Elt Ideal)} (h : Shared m c V) (h' : ∀ r ∈ shared, V' (Proc.devRef .tc r) = V (Proc.devRef .tc r)) :
    Shared m c V' :=
  ⟨(h' main_v1 (by decide)).trans h.1, (h' main_v3 (by decide)).trans h.2.1, (h' main_v7 (by decide)).trans h.2.2.1,
    (h' main_v11 (by decide)).trans h.2.2.2.1, (h' main_v15 (by decide)).trans h.2.2.2.2⟩

/-- The edge terms of the first layer, where they are laid out as a vector. -/
theorem edges0 : W3 m ρ c (Proc.devRef .tc main_v7) = edgeTerm (m ((c : Thread nD τ).loc main_arg2)) (m ((c : Thread nD τ).loc main_arg4)) (m ((c : Thread nD τ).loc main_arg7)) := by
  have h := (W2_arr m ρ c 3).trans (left0 (V1 m ρ) c)
  have hf := first (W0 m ρ c)
  rw [show V1 m ρ c main_arg4 = _ from W1_args m ρ c main_arg4 (by decide), show V1 m ρ c main_v4 = _ from hf.2.2.1,
    show V1 m ρ c main_v5 = _ from hf.2.2.2] at h
  exact (second (W2 m ρ c)).1.trans (congrArg (fun y => shapeCast S320000 y shapeCasts_S40000x8_S320000) h)

/-- The edge terms of the middle layers. -/
theorem edges1 : W5 m ρ c (Proc.devRef .tc main_v11) = edgeTerm (m ((c : Thread nD τ).loc main_arg2)) (m ((c : Thread nD τ).loc main_arg10)) (m ((c : Thread nD τ).loc main_arg13)) := by
  have h := (W4_arr m ρ c 3).trans (left1 (V3 m ρ) c)
  have hf := second (W2 m ρ c)
  rw [show V3 m ρ c main_arg10 = _ from W3_args m ρ c main_arg10 (by decide), show V3 m ρ c main_v8 = _ from hf.2.1,
    show V3 m ρ c main_v9 = _ from hf.2.2, W2_args m ρ c main_arg2 (by decide), W2_args m ρ c main_arg13 (by decide)] at h
  exact (third (W4 m ρ c)).1.trans (congrArg (fun y => shapeCast S320000 y shapeCasts_S40000x8_S320000) h)

/-- The edge terms of the last layer. -/
theorem edges2 : W7 m ρ c (Proc.devRef .tc main_v15) = edgeTerm (m ((c : Thread nD τ).loc main_arg2)) (m ((c : Thread nD τ).loc main_arg16)) (m ((c : Thread nD τ).loc main_arg19)) := by
  have h := (W6_arr m ρ c 3).trans (left2 (V5 m ρ) c)
  have hf := third (W4 m ρ c)
  rw [show V5 m ρ c main_arg16 = _ from W5_args m ρ c main_arg16 (by decide), show V5 m ρ c main_v12 = _ from hf.2.1,
    show V5 m ρ c main_v13 = _ from hf.2.2, W4_args m ρ c main_arg2 (by decide), W4_args m ρ c main_arg19 (by decide)] at h
  exact (columns3 (W6 m ρ c)).1.trans (congrArg (fun y => shapeCast S320000 y shapeCasts_S40000x8_S320000) h)

/-- The shared arrays at the start of the first layer. -/
theorem shared8 : Shared m c (W8 m ρ c) := by
  have hf := first (W0 m ρ c)
  refine ⟨?_, ?_, ?_, ?_, ?_⟩
  · exact ((W8_of m ρ c main_v1 (by decide +kernel)).trans ((W7_of m ρ c main_v1 (by decide +kernel)).trans ((W6_of m ρ c main_v1 (by decide +kernel)).trans ((W5_of m ρ c main_v1 (by decide +kernel)).trans ((W4_of m ρ c main_v1 (by decide +kernel)).trans ((W3_of m ρ c main_v1 (by decide +kernel)).trans (W2_of m ρ c main_v1 (by decide +kernel)))))))).trans hf.1
  · exact ((W8_of m ρ c main_v3 (by decide +kernel)).trans ((W7_of m ρ c main_v3 (by decide +kernel)).trans ((W6_of m ρ c main_v3 (by decide +kernel)).trans ((W5_of m ρ c main_v3 (by decide +kernel)).trans ((W4_of m ρ c main_v3 (by decide +kernel)).trans ((W3_of m ρ c main_v3 (by decide +kernel)).trans (W2_of m ρ c main_v3 (by decide +kernel)))))))).trans hf.2.1
  · exact ((W8_of m ρ c main_v7 (by decide +kernel)).trans ((W7_of m ρ c main_v7 (by decide +kernel)).trans ((W6_of m ρ c main_v7 (by decide +kernel)).trans ((W5_of m ρ c main_v7 (by decide +kernel)).trans (W4_of m ρ c main_v7 (by decide +kernel)))))).trans (edges0 m ρ c)
  · exact ((W8_of m ρ c main_v11 (by decide +kernel)).trans ((W7_of m ρ c main_v11 (by decide +kernel)).trans (W6_of m ρ c main_v11 (by decide +kernel)))).trans (edges1 m ρ c)
  · exact ((W8_of m ρ c main_v15 (by decide +kernel))).trans (edges2 m ρ c)

/-- The shared arrays at the start of the next layer. -/
theorem shared14 : Shared m c (W14 m ρ c) :=
  (shared8 m ρ c).keep m c fun r hr =>
    (W14_of m ρ c r ((ListAll.forall_mem_of_all_decide (by decide +kernel) : ∀ r ∈ shared, ∀ w : Fin cfg5.W, Pipeline.arrRef spec5 w = r → (cfg5.win w).isOut = false) r hr)).trans <|
    (W13_of m ρ c r ((ListAll.forall_mem_of_all_decide (by decide +kernel) : ∀ r ∈ shared, r ∉ hostOps5_W) r hr)).trans <|
    (W12_of m ρ c r ((ListAll.forall_mem_of_all_decide (by decide +kernel) : ∀ r ∈ shared, ∀ w : Fin cfg4.W, Pipeline.arrRef spec4 w = r → (cfg4.win w).isOut = false) r hr)).trans <|
    (W11_of m ρ c r ((ListAll.forall_mem_of_all_decide (by decide +kernel) : ∀ r ∈ shared, r ∉ hostOps4_2_W) r hr)).trans <|
    (W10_of m ρ c r ((ListAll.forall_mem_of_all_decide (by decide +kernel) : ∀ r ∈ shared, r ∉ hostOps4_1_W) r hr)).trans <|
    (W9_of m ρ c r ((ListAll.forall_mem_of_all_decide (by decide +kernel) : ∀ r ∈ shared, r ∉ hostOps4_W) r hr))

/-- The shared arrays at the start of the next layer. -/
theorem shared20 : Shared m c (W20 m ρ c) :=
  (shared14 m ρ c).keep m c fun r hr =>
    (W20_of m ρ c r ((ListAll.forall_mem_of_all_decide (by decide +kernel) : ∀ r ∈ shared, ∀ w : Fin cfg7.W, Pipeline.arrRef spec7 w = r → (cfg7.win w).isOut = false) r hr)).trans <|
    (W19_of m ρ c r ((ListAll.forall_mem_of_all_decide (by decide +kernel) : ∀ r ∈ shared, r ∉ hostOps7_W) r hr)).trans <|
    (W18_of m ρ c r ((ListAll.forall_mem_of_all_decide (by decide +kernel) : ∀ r ∈ shared, ∀ w : Fin cfg6.W, Pipeline.arrRef spec6 w = r → (cfg6.win w).isOut = false) r hr)).trans <|
    (W17_of m ρ c r ((ListAll.forall_mem_of_all_decide (by decide +kernel) : ∀ r ∈ shared, r ∉ hostOps6_2_W) r hr)).trans <|
    (W16_of m ρ c r ((ListAll.forall_mem_of_all_decide (by decide +kernel) : ∀ r ∈ shared, r ∉ hostOps6_1_W) r hr)).trans <|
    (W15_of m ρ c r ((ListAll.forall_mem_of_all_decide (by decide +kernel) : ∀ r ∈ shared, r ∉ hostOps6_W) r hr))

/-- The shared arrays at the start of the next layer. -/
theorem shared26 : Shared m c (W26 m ρ c) :=
  (shared20 m ρ c).keep m c fun r hr =>
    (W26_of m ρ c r ((ListAll.forall_mem_of_all_decide (by decide +kernel) : ∀ r ∈ shared, ∀ w : Fin cfg9.W, Pipeline.arrRef spec9 w = r → (cfg9.win w).isOut = false) r hr)).trans <|
    (W25_of m ρ c r ((ListAll.forall_mem_of_all_decide (by decide +kernel) : ∀ r ∈ shared, r ∉ hostOps9_W) r hr)).trans <|
    (W24_of m ρ c r ((ListAll.forall_mem_of_all_decide (by decide +kernel) : ∀ r ∈ shared, ∀ w : Fin cfg8.W, Pipeline.arrRef spec8 w = r → (cfg8.win w).isOut = false) r hr)).trans <|
    (W23_of m ρ c r ((ListAll.forall_mem_of_all_decide (by decide +kernel) : ∀ r ∈ shared, r ∉ hostOps8_2_W) r hr)).trans <|
    (W22_of m ρ c r ((ListAll.forall_mem_of_all_decide (by decide +kernel) : ∀ r ∈ shared, r ∉ hostOps8_1_W) r hr)).trans <|
    (W21_of m ρ c r ((ListAll.forall_mem_of_all_decide (by decide +kernel) : ∀ r ∈ shared, r ∉ hostOps8_W) r hr))

/-- What the first layer leaves, from what its product's launch reads. -/
theorem layer4 : W12 m ρ c (Proc.devRef .tc main_v78) = tanh (F := Ideal) (kerLayer (kerSrc (m ((c : Thread nD τ).loc main_arg1))) (kerDst (m ((c : Thread nD τ).loc main_arg1))) (m ((c : Thread nD τ).loc main_arg2)) (edgeTerm (m ((c : Thread nD τ).loc main_arg2)) (m ((c : Thread nD τ).loc main_arg4)) (m ((c : Thread nD τ).loc main_arg7))) (W7 m ρ c (Proc.devRef .tc main_arg0)) (m ((c : Thread nD τ).loc main_arg3)) (m ((c : Thread nD τ).loc main_arg4)) (m ((c : Thread nD τ).loc main_arg5)) (m ((c : Thread nD τ).loc main_arg6)) (m ((c : Thread nD τ).loc main_arg8))) := by
  have h := shared8 m ρ c
  have hw := columns3 (W6 m ρ c)
  rw [W6_args m ρ c main_arg5 (by decide), W6_args m ρ c main_arg6 (by decide)] at hw
  have hd := left3 (V7 m ρ) c
  rw [← W8_arr m ρ c 3, ← W8_arr m ρ c 4, ← W8_arr m ρ c 5, show V7 m ρ c main_arg3 = _ from W7_args m ρ c main_arg3 (by decide)] at hd
  have hl := logits4 (W8 m ρ c)
  rw [h.1, h.2.1, h.2.2.1] at hl
  have hs := sums4 (W10 m ρ c)
  rw [((W10_of m ρ c main_v19_0 (by decide +kernel)).trans (W9_of m ρ c main_v19_0 (by decide +kernel))), ((W10_of m ρ c main_v1 (by decide +kernel)).trans (W9_of m ρ c main_v1 (by decide +kernel))).trans h.1, ((W10_of m ρ c main_v3 (by decide +kernel)).trans (W9_of m ρ c main_v3 (by decide +kernel))).trans h.2.1,
    W10_args m ρ c main_arg2 (by decide), W10_args m ρ c main_arg8 (by decide)] at hs
  refine (W12_arr m ρ c 4).trans ((left4 (V11 m ρ) c).trans (congrArg tanh ?_))
  rw [show V11 m ρ c main_arg4 = _ from W11_args m ρ c main_arg4 (by decide)]
  exact layer_of _ _ _ _ _ _ _ _ _ _ hw.2 hd hl hs

/-- What the second layer leaves, from what its product's launch reads. -/
theorem layer6 : W18 m ρ c (Proc.devRef .tc main_v141) = tanh (F := Ideal) (kerLayer (kerSrc (m ((c : Thread nD τ).loc main_arg1))) (kerDst (m ((c : Thread nD τ).loc main_arg1))) (m ((c : Thread nD τ).loc main_arg2)) (edgeTerm (m ((c : Thread nD τ).loc main_arg2)) (m ((c : Thread nD τ).loc main_arg10)) (m ((c : Thread nD τ).loc main_arg13))) (W13 m ρ c (Proc.devRef .tc main_v78)) (m ((c : Thread nD τ).loc main_arg9)) (m ((c : Thread nD τ).loc main_arg10)) (m ((c : Thread nD τ).loc main_arg11)) (m ((c : Thread nD τ).loc main_arg12)) (m ((c : Thread nD τ).loc main_arg14))) := by
  have h := shared14 m ρ c
  have hw := columns5 (W12 m ρ c)
  rw [W12_args m ρ c main_arg11 (by decide), W12_args m ρ c main_arg12 (by decide)] at hw
  have hd := left5 (V13 m ρ) c
  rw [← W14_arr m ρ c 3, ← W14_arr m ρ c 4, ← W14_arr m ρ c 5, show V13 m ρ c main_arg9 = _ from W13_args m ρ c main_arg9 (by decide)] at hd
  have hl := logits6 (W14 m ρ c)
  rw [h.1, h.2.1, h.2.2.2.1] at hl
  have hs := sums6 (W16 m ρ c)
  rw [((W16_of m ρ c main_v82_0 (by decide +kernel)).trans (W15_of m ρ c main_v82_0 (by decide +kernel))), ((W16_of m ρ c main_v1 (by decide +kernel)).trans (W15_of m ρ c main_v1 (by decide +kernel))).trans h.1, ((W16_of m ρ c main_v3 (by decide +kernel)).trans (W15_of m ρ c main_v3 (by decide +kernel))).trans h.2.1,
    W16_args m ρ c main_arg2 (by decide), W16_args m ρ c main_arg14 (by decide)] at hs
  refine (W18_arr m ρ c 4).trans ((left6 (V17 m ρ) c).trans (congrArg tanh ?_))
  rw [show V17 m ρ c main_arg10 = _ from W17_args m ρ c main_arg10 (by decide)]
  exact layer_of _ _ _ _ _ _ _ _ _ _ hw hd hl hs

/-- What the third layer leaves, from what its product's launch reads. -/
theorem layer8 : W24 m ρ c (Proc.devRef .tc main_v204) = tanh (F := Ideal) (kerLayer (kerSrc (m ((c : Thread nD τ).loc main_arg1))) (kerDst (m ((c : Thread nD τ).loc main_arg1))) (m ((c : Thread nD τ).loc main_arg2)) (edgeTerm (m ((c : Thread nD τ).loc main_arg2)) (m ((c : Thread nD τ).loc main_arg10)) (m ((c : Thread nD τ).loc main_arg13))) (W19 m ρ c (Proc.devRef .tc main_v141)) (m ((c : Thread nD τ).loc main_arg9)) (m ((c : Thread nD τ).loc main_arg10)) (m ((c : Thread nD τ).loc main_arg11)) (m ((c : Thread nD τ).loc main_arg12)) (m ((c : Thread nD τ).loc main_arg14))) := by
  have h := shared20 m ρ c
  have hw := columns7 (W18 m ρ c)
  rw [W18_args m ρ c main_arg11 (by decide), W18_args m ρ c main_arg12 (by decide)] at hw
  have hd := left7 (V19 m ρ) c
  rw [← W20_arr m ρ c 3, ← W20_arr m ρ c 4, ← W20_arr m ρ c 5, show V19 m ρ c main_arg9 = _ from W19_args m ρ c main_arg9 (by decide)] at hd
  have hl := logits8 (W20 m ρ c)
  rw [h.1, h.2.1, h.2.2.2.1] at hl
  have hs := sums8 (W22 m ρ c)
  rw [((W22_of m ρ c main_v145_0 (by decide +kernel)).trans (W21_of m ρ c main_v145_0 (by decide +kernel))), ((W22_of m ρ c main_v1 (by decide +kernel)).trans (W21_of m ρ c main_v1 (by decide +kernel))).trans h.1, ((W22_of m ρ c main_v3 (by decide +kernel)).trans (W21_of m ρ c main_v3 (by decide +kernel))).trans h.2.1,
    W22_args m ρ c main_arg2 (by decide), W22_args m ρ c main_arg14 (by decide)] at hs
  refine (W24_arr m ρ c 4).trans ((left8 (V23 m ρ) c).trans (congrArg tanh ?_))
  rw [show V23 m ρ c main_arg10 = _ from W23_args m ρ c main_arg10 (by decide)]
  exact layer_of _ _ _ _ _ _ _ _ _ _ hw hd hl hs

/-- What the last layer leaves, from what its product's launch reads. -/
theorem layer10 : W30 m ρ c (Proc.devRef .tc main_v267) = kerLayer (kerSrc (m ((c : Thread nD τ).loc main_arg1))) (kerDst (m ((c : Thread nD τ).loc main_arg1))) (m ((c : Thread nD τ).loc main_arg2)) (edgeTerm (m ((c : Thread nD τ).loc main_arg2)) (m ((c : Thread nD τ).loc main_arg16)) (m ((c : Thread nD τ).loc main_arg19))) (W25 m ρ c (Proc.devRef .tc main_v204)) (m ((c : Thread nD τ).loc main_arg15)) (m ((c : Thread nD τ).loc main_arg16)) (m ((c : Thread nD τ).loc main_arg17)) (m ((c : Thread nD τ).loc main_arg18)) (m ((c : Thread nD τ).loc main_arg20)) := by
  have h := shared26 m ρ c
  have hw := columns9 (W24 m ρ c)
  rw [W24_args m ρ c main_arg17 (by decide), W24_args m ρ c main_arg18 (by decide)] at hw
  have hd := left9 (V25 m ρ) c
  rw [← W26_arr m ρ c 3, ← W26_arr m ρ c 4, ← W26_arr m ρ c 5, show V25 m ρ c main_arg15 = _ from W25_args m ρ c main_arg15 (by decide)] at hd
  have hl := logits10 (W26 m ρ c)
  rw [h.1, h.2.1, h.2.2.2.2] at hl
  have hs := sums10 (W28 m ρ c)
  rw [((W28_of m ρ c main_v208_0 (by decide +kernel)).trans (W27_of m ρ c main_v208_0 (by decide +kernel))), ((W28_of m ρ c main_v1 (by decide +kernel)).trans (W27_of m ρ c main_v1 (by decide +kernel))).trans h.1, ((W28_of m ρ c main_v3 (by decide +kernel)).trans (W27_of m ρ c main_v3 (by decide +kernel))).trans h.2.1,
    W28_args m ρ c main_arg2 (by decide), W28_args m ρ c main_arg20 (by decide)] at hs
  refine (W30_arr m ρ c 4).trans ((left10 (V29 m ρ) c).trans ?_)
  rw [show V29 m ρ c main_arg16 = _ from W29_args m ρ c main_arg16 (by decide)]
  exact layer_of _ _ _ _ _ _ _ _ _ _ hw hd hl hs

end Gat

end
-- ==== Proof.KerRun.lean ====
/- The kernel's run: it terminates, and its result buffer holds four layers of the arguments (`ker_run`). -/
module

public import proofs.«01_k».proof.Proof.KerFold
public import proofs.«01_k».proof.Proof.Gen.KernelIdeal.Frame

@[expose] public section

set_option maxRecDepth 16384

noncomputable section

namespace Gat

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- Four layers, the middle two with the same parameters. -/
def kerNet (a0 : FVec Ideal S10000x128 .f32) (a1 : IVec S2x320000 32) (a2 : FVec Ideal S320000x16 .f32)
    (a3 : FVec Ideal S128x128 .f32) (a4 : FVec Ideal S16x128 .f32) (a5 a6 a7 a8 : FVec Ideal S128 .f32)
    (a9 : FVec Ideal S128x128 .f32) (a10 : FVec Ideal S16x128 .f32) (a11 a12 a13 a14 : FVec Ideal S128 .f32)
    (a15 : FVec Ideal S128x128 .f32) (a16 : FVec Ideal S16x128 .f32) (a17 a18 a19 a20 : FVec Ideal S128 .f32) :
    FVec Ideal S10000x128 .f32 :=
  kerLayer (kerSrc a1) (kerDst a1) a2 (edgeTerm a2 a16 a19)
    (tanh (F := Ideal) (kerLayer (kerSrc a1) (kerDst a1) a2 (edgeTerm a2 a10 a13)
      (tanh (F := Ideal) (kerLayer (kerSrc a1) (kerDst a1) a2 (edgeTerm a2 a10 a13)
        (tanh (F := Ideal) (kerLayer (kerSrc a1) (kerDst a1) a2 (edgeTerm a2 a4 a7) a0 a3 a4 a5 a6 a8)) a9 a10 a11 a12 a14))
      a9 a10 a11 a12 a14)) a15 a16 a17 a18 a20

variable (m : (ℓ : Loc nD τ sig) → Buf (Elt Ideal) ℓ) (ρ : Dev nD → PrngReg)

/-- What the result buffer holds at the end is the four layers of the arguments. -/
theorem result (c : Dev nD) : W30 m ρ c (Proc.devRef .tc main_v267) = kerNet (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) := by
  have h1 : W13 m ρ c (Proc.devRef .tc main_v78) = W12 m ρ c (Proc.devRef .tc main_v78) := W13_of m ρ c main_v78 (by decide +kernel)
  have h2 : W19 m ρ c (Proc.devRef .tc main_v141) = W18 m ρ c (Proc.devRef .tc main_v141) := W19_of m ρ c main_v141 (by decide +kernel)
  have h3 : W25 m ρ c (Proc.devRef .tc main_v204) = W24 m ρ c (Proc.devRef .tc main_v204) := W25_of m ρ c main_v204 (by decide +kernel)
  have h0 := W7_args m ρ c main_arg0 (by decide)
  rw [layer10, h3, layer8, h2, layer6, h1, layer4, h0]
  rfl

set_option backward.isDefEq.respectTransparency.types false in
/-- The run of the kernel: it terminates, and every buffer that outlives it holds what the last of the buffers' contents says. -/
theorem ker_final : θ_run (defs (F := Ideal)) (onTc (τ := τ) (main (F := Ideal))) ⟨m, fun _ => 0, ρ⟩ fun r =>
    ∀ c : Dev nD, ∀ b ∈ Pipeline.ucRefs τ sig, r.2.mem (((c : Thread nD τ)).1, b) = W30 m ρ c b :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W30 m ρ c b)
    (hfin := fun c s' => by
      iintro ⟨⟨Hh, -⟩, HSI⟩
      unfold StableHlo.held
      imodintro
      iapply (pointsTo_read_all (Pipeline.ucRefs τ sig) (fun b => (((c : Thread nD τ)).1, b)) (W30 m ρ c) s')
      isplitl [Hh] <;> iassumption)
    (hQ := fun _ h _ => h)

/-- THE KERNEL'S RUN: it terminates, its result buffer holds the four layers of the arguments, the arguments are unchanged. -/
theorem ker_run : θ_run (defs (F := Ideal)) (onTc (τ := τ) (main (F := Ideal))) ⟨m, fun _ => 0, ρ⟩ fun r => ∀ c : Dev nD,
    r.2.mem ((c.tc : Thread nD τ).loc main_v267) = kerNet (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run _ _ _).mono (fun _ h c => ⟨(h c _ (mem_uc main_v267 (by decide))).trans (result m ρ c),
    (h c _ (mem_uc main_arg0 (by decide))).trans (W30_main_arg0 m ρ c),
    (h c _ (mem_uc main_arg1 (by decide))).trans (W30_main_arg1 m ρ c),
    (h c _ (mem_uc main_arg2 (by decide))).trans (W30_main_arg2 m ρ c),
    (h c _ (mem_uc main_arg3 (by decide))).trans (W30_main_arg3 m ρ c),
    (h c _ (mem_uc main_arg4 (by decide))).trans (W30_main_arg4 m ρ c),
    (h c _ (mem_uc main_arg5 (by decide))).trans (W30_main_arg5 m ρ c),
    (h c _ (mem_uc main_arg6 (by decide))).trans (W30_main_arg6 m ρ c),
    (h c _ (mem_uc main_arg7 (by decide))).trans (W30_main_arg7 m ρ c),
    (h c _ (mem_uc main_arg8 (by decide))).trans (W30_main_arg8 m ρ c),
    (h c _ (mem_uc main_arg9 (by decide))).trans (W30_main_arg9 m ρ c),
    (h c _ (mem_uc main_arg10 (by decide))).trans (W30_main_arg10 m ρ c),
    (h c _ (mem_uc main_arg11 (by decide))).trans (W30_main_arg11 m ρ c),
    (h c _ (mem_uc main_arg12 (by decide))).trans (W30_main_arg12 m ρ c),
    (h c _ (mem_uc main_arg13 (by decide))).trans (W30_main_arg13 m ρ c),
    (h c _ (mem_uc main_arg14 (by decide))).trans (W30_main_arg14 m ρ c),
    (h c _ (mem_uc main_arg15 (by decide))).trans (W30_main_arg15 m ρ c),
    (h c _ (mem_uc main_arg16 (by decide))).trans (W30_main_arg16 m ρ c),
    (h c _ (mem_uc main_arg17 (by decide))).trans (W30_main_arg17 m ρ c),
    (h c _ (mem_uc main_arg18 (by decide))).trans (W30_main_arg18 m ρ c),
    (h c _ (mem_uc main_arg19 (by decide))).trans (W30_main_arg19 m ρ c),
    (h c _ (mem_uc main_arg20 (by decide))).trans (W30_main_arg20 m ρ c)⟩) (ker_final m ρ)

end Gat

end
-- ==== Proof.Net.lean ====
/- The two results agree: on arguments the precondition holds of, the kernel's four layers and the reference's are the same four
   layers over the reals (`net`). -/
module

public import proofs.«01_k».proof.Proof.Pre
public import proofs.«01_k».proof.Proof.RefRun
public import proofs.«01_k».proof.Proof.KerRun

@[expose] public section

noncomputable section

open scoped BigOperators

namespace Gat

open Idealize.ShloMosaic Cert.KernelIdeal Cert.KernelIdeal.Gen

/-- The two programs take the same row of the edge list for the source nodes. -/
theorem src_eq (a1 : IVec S2x320000 32) : kerSrc a1 = refSrc a1 := rfl

/-- The two programs take the same row of the edge list for the target nodes. -/
theorem dst_eq (a1 : IVec S2x320000 32) : kerDst a1 = refDst a1 := rfl

/-- The kernel's hyperbolic tangent of a real matrix plus a bias. -/
theorem kerTanh_biased {A B : ℕ} (f : Fin A → Fin B → ℝ) (b : FVec Ideal ⟨1, ![B]⟩ .f32) :
    tanh (F := Ideal) (biased f b) = up2 (squashed f b) := tanh_biased f b

section Layers

variable {a1 : IVec S2x320000 32} {s d : Fin 320000 → Fin 10000} {l : Fin 320000 → Option (Fin 10000)} (hs : Names (refSrc a1) s)
  (hd : Names (refDst a1) d) (hE : Ends (refDst a1) l) (x : Fin 10000 → Fin 128 → ℝ) (ein : Fin 320000 → Fin 16 → ℝ) (p : Params)
  (b b' : FVec Ideal S128 .f32)

/-- One layer over the reals, before the bias. -/
def realLayer (s d : Fin 320000 → Fin 10000) (l : Fin 320000 → Option (Fin 10000)) (ein : Fin 320000 → Fin 16 → ℝ) (p : Params)
    (x : Fin 10000 → Fin 128 → ℝ) : Fin 10000 → Fin 128 → ℝ :=
  layer slope s d l ein x p.W p.We p.al p.ar p.ae

include hs hd hE

/-- A layer of the reference is the layer over the reals plus the bias. -/
theorem ref_layer : refLayer a1 (up2 ein) (up2 x) (up2 p.W) (up2 p.We) (up1 p.al) (up1 p.ar) (up1 p.ae) b
    = biased (realLayer s d l ein p x) b :=
  refLayer_up hs hd hE ein x p.W p.We p.al p.ar p.ae b

/-- A layer of the kernel is the layer over the reals plus the bias, while the three terms of its logits stay within thirty. -/
theorem ker_layer (he : ∀ e, ∑ k, |ein e k| * |mv p.We p.ae k| ≤ 30) (hl : ∀ n, ∑ k, |x n k| * |mv p.W p.al k| ≤ 30)
    (hr : ∀ n, ∑ k, |x n k| * |mv p.W p.ar k| ≤ 30) :
    kerLayer (kerSrc a1) (kerDst a1) (up2 ein) (edgeTerm (up2 ein) (up2 p.We) (up1 p.ae)) (up2 x) (up2 p.W) (up2 p.We)
      (up1 p.al) (up1 p.ar) b = biased (realLayer s d l ein p x) b := by
  rw [edgeTerm_up]
  exact kerLayer_up (src := kerSrc a1) (dst := kerDst a1) hs hd hE ein x p.W p.We p.al p.ar p.ae b
    (fun n => abs_mv_mm_le x p.W p.al n 30 (hl n)) (fun n => abs_mv_mm_le x p.W p.ar n 30 (hr n))
    (fun e => abs_mv_mm_le ein p.We p.ae e 30 (he e))

/-- A later layer of the kernel reads hyperbolic tangents, whose absolute values are within one. -/
theorem ker_later (he : ∀ e, ∑ k, |ein e k| * |mv p.We p.ae k| ≤ 30) (hl : ∑ k, |mv p.W p.al k| ≤ 30)
    (hr : ∑ k, |mv p.W p.ar k| ≤ 30) :
    kerLayer (kerSrc a1) (kerDst a1) (up2 ein) (edgeTerm (up2 ein) (up2 p.We) (up1 p.ae)) (tanh (F := Ideal) (biased x b')) (up2 p.W)
      (up2 p.We) (up1 p.al) (up1 p.ar) b = biased (realLayer s d l ein p (squashed x b')) b := by
  rw [kerTanh_biased]
  exact ker_layer hs hd hE _ ein p b he (rows_le_of_total _ (fun _ _ => abs_tanh_le _) _ _ hl)
    (rows_le_of_total _ (fun _ _ => abs_tanh_le _) _ _ hr)

/-- A later layer of the reference. -/
theorem ref_later : refLayer a1 (up2 ein) (Host.tanh (biased x b')) (up2 p.W) (up2 p.We) (up1 p.al) (up1 p.ar) (up1 p.ae) b
    = biased (realLayer s d l ein p (squashed x b')) b := by
  rw [tanh_biased]
  exact ref_layer hs hd hE _ ein p b

end Layers

/-- On arguments the precondition holds of, the kernel's four layers are the reference's. -/
theorem net (a0 : FVec Ideal S10000x128 .f32) (a1 : IVec S2x320000 32) (a2 : FVec Ideal S320000x16 .f32)
    (a3 : FVec Ideal S128x128 .f32) (a4 : FVec Ideal S16x128 .f32) (a5 a6 a7 a8 : FVec Ideal S128 .f32)
    (a9 : FVec Ideal S128x128 .f32) (a10 : FVec Ideal S16x128 .f32) (a11 a12 a13 a14 : FVec Ideal S128 .f32)
    (a15 : FVec Ideal S128x128 .f32) (a16 : FVec Ideal S16x128 .f32) (a17 a18 a19 a20 : FVec Ideal S128 .f32)
    (h : Cert.Pre_moderate.fn (F := Ideal) a0 a1 a2 a3 a4 a5 a6 a7 a8 a9 a10 a11 a12 a13 a14 a15 a16 a17 a18 a19 a20 = fun _ => 1#1) :
    kerNet a0 a1 a2 a3 a4 a5 a6 a7 a8 a9 a10 a11 a12 a13 a14 a15 a16 a17 a18 a19 a20
      = refNet a0 a1 a2 a3 a4 a5 a6 a7 a8 a9 a10 a11 a12 a13 a14 a15 a16 a17 a18 a19 a20 := by
  obtain ⟨x, ein, p, q, r, R⟩ := moderate_reads a0 a1 a2 a3 a4 a5 a6 a7 a8 a9 a10 a11 a12 a13 a14 a15 a16 a17 a18 a19 a20 h
  obtain ⟨s, hs⟩ := names_of (N := 10000) (by norm_num) (refSrc a1)
  obtain ⟨d, hd⟩ := names_of (N := 10000) (by norm_num) (refDst a1)
  obtain ⟨l, hE⟩ := ends_of (refDst a1)
  obtain ⟨rfl, rfl, ⟨rfl, rfl, rfl, rfl, rfl⟩, ⟨rfl, rfl, rfl, rfl, rfl⟩, ⟨rfl, rfl, rfl, rfl, rfl⟩, ep, eq, er, lp, rp, lq, rq, lr, rr⟩ := R
  unfold kerNet refNet
  rw [ker_layer hs hd hE x ein p a8 ep lp rp, ker_later hs hd hE _ ein q a14 a8 eq lq rq, ker_later hs hd hE _ ein q a14 a14 eq lq rq,
    ker_later hs hd hE _ ein r a20 a14 er lr rr, ref_layer hs hd hE x ein p a8, ref_later hs hd hE _ ein q a14 a8, ref_later hs hd hE _ ein q a14 a14,
    ref_later hs hd hE _ ein r a20 a14]

end Gat

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_moderate
public import proofs.«01_k».proof.Proof.Net
public import Idealize.ShloMosaic.Adequacy
public import Idealize.ShloMosaic.Init

@[expose] public section

noncomputable section

namespace Cert.Proof

open Idealize.ShloMosaic Idealize.SL.Sem Cert.Kernel

/-- From memories that agree on the arguments, and where the precondition holds, the kernel's result is the reference's. -/
theorem results : Cert.algebraic_KernelIdeal_ReferenceIdeal_pre_moderate := by
  intro m g m' g' hpre hargs
  refine ⟨_, Gat.ker_run m g, ?_⟩
  refine (θ_run (Cert.ReferenceIdeal.defs (F := Ideal)) _ _).mono ?_ (Gat.ref_run m' g')
  intro r hr c
  obtain ⟨hv, hu⟩ := hr c
  refine ⟨hv.trans ?_, hu⟩
  obtain ⟨e0, e1, e2, e3, e4, e5, e6, e7, e8, e9, e10, e11, e12, e13, e14, e15, e16, e17, e18, e19, e20⟩ := hargs c
  rw [e0, e1, e2, e3, e4, e5, e6, e7, e8, e9, e10, e11, e12, e13, e14, e15, e16, e17, e18, e19, e20]
  exact (Gat.net _ _ _ _ _ _ _ _ _ _ _ _ _ _ _ _ _ _ _ _ _ (hpre c)).symm

/-- The claims. -/
theorem claim : Cert.Claim :=
  ⟨Cert.Kernel.Gen.facts, Cert.KernelIdeal.Gen.facts, Cert.ReferenceIdeal.Gen.facts, Cert.Pre_moderate.Gen.facts,
    fun m g _ => Cert.Kernel.Gen.frame m g, fun m g _ => Cert.KernelIdeal.Gen.frame m g, fun m g _ => Cert.KernelIdeal.Gen.frame m g,
    fun m g _ => Gat.ref_frame m g, fun m g _ => Gat.ref_frame m g, trivial, results⟩

end Cert.Proof

end
